-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_x_finite [hPre_x_finite : Cert.Pre_x_finite.Facts] (m : (ℓ : Loc Cert.KernelIdeal.nD Cert.KernelIdeal.τ Cert.KernelIdeal.sig) → Buf (Elt Ideal) ℓ) : Prop :=
  ∀ c : Dev Cert.KernelIdeal.nD,
    (Cert.Pre_x_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_x_finite [hPre_x_finite : Cert.Pre_x_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_x_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_x_finite [hKernelIdeal : Cert.KernelIdeal.Facts] [hPre_x_finite : Cert.Pre_x_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_x_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_x_finite [hReferenceIdeal : Cert.ReferenceIdeal.Facts] [hPre_x_finite : Cert.Pre_x_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_x_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_x_finite [hKernelIdeal : Cert.KernelIdeal.Facts] [hReferenceIdeal : Cert.ReferenceIdeal.Facts] [hPre_x_finite : Cert.Pre_x_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_x_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_v43) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_x_finite : Cert.Pre_x_finite.Facts),
    quiescent_Kernel (hKernel := hKernel)
    ∧ quiescent_KernelIdeal (hKernelIdeal := hKernelIdeal)
    ∧ quiescent_KernelIdeal_pre_x_finite (hKernelIdeal := hKernelIdeal) (hPre_x_finite := hPre_x_finite)
    ∧ quiescent_ReferenceIdeal (hReferenceIdeal := hReferenceIdeal)
    ∧ quiescent_ReferenceIdeal_pre_x_finite (hReferenceIdeal := hReferenceIdeal) (hPre_x_finite := hPre_x_finite)
    ∧ preserves_Kernel_KernelIdeal
    ∧ algebraic_KernelIdeal_ReferenceIdeal_pre_x_finite (hKernelIdeal := hKernelIdeal) (hReferenceIdeal := hReferenceIdeal) (hPre_x_finite := hPre_x_finite)
-- ==== Pre_x_finite.lean ====
abbrev S4x4096x3072 : Shape := ⟨3, ![4, 4096, 3072]⟩
abbrev S4x3072x256 : Shape := ⟨3, ![4, 3072, 256]⟩
abbrev S4x256 : Shape := ⟨2, ![4, 256]⟩
abbrev S_ : Shape := ⟨0, ![]⟩

class Facts : Prop where
  bcast_S_S4x4096x3072 : S_.BroadcastsInDim S4x4096x3072 (![] : Fin 0 → Fin S4x4096x3072.rank)

variable [Facts]

def fn {F : FTy → Type} [FloatOps F] (main_arg0 : FVec F S4x4096x3072 .bf16) (main_arg1 : IVec S4x3072x256 8) (main_arg2 : FVec F S4x256 .f32) : IVec S4x4096x3072 1 :=
  let main_v0 : FVec F S4x4096x3072 .bf16 := Host.absf main_arg0
  let main_cst : FVec F S_ .bf16 := constant S_ .bf16 0x7F7F#16
  let main_v1 : FVec F S4x4096x3072 .bf16 := broadcastInDim S4x4096x3072 ![] bcast_S_S4x4096x3072 main_cst
  let main_v2 : IVec S4x4096x3072 1 := cmpf .ole main_v0 main_v1
  main_v2
-- ==== Kernel.lean ====
abbrev S4x4096x3072 : Shape := ⟨3, ![4, 4096, 3072]⟩
abbrev S4x3072x256 : Shape := ⟨3, ![4, 3072, 256]⟩
abbrev S4x256 : Shape := ⟨2, ![4, 256]⟩
abbrev S21 : Shape := ⟨1, ![21]⟩
abbrev S4x1x256 : Shape := ⟨3, ![4, 1, 256]⟩
abbrev S21x512x512 : Shape := ⟨3, ![21, 512, 512]⟩
abbrev S3072x256 : Shape := ⟨2, ![3072, 256]⟩
abbrev S256x3072 : Shape := ⟨2, ![256, 3072]⟩
abbrev S1x4096x512 : Shape := ⟨3, ![1, 4096, 512]⟩
abbrev S1 : Shape := ⟨1, ![1]⟩
abbrev S1x512x256 : Shape := ⟨3, ![1, 512, 256]⟩
abbrev S1x1x256 : Shape := ⟨3, ![1, 1, 256]⟩
abbrev S1x512x512 : Shape := ⟨3, ![1, 512, 512]⟩
abbrev S4096x512 : Shape := ⟨2, ![4096, 512]⟩
abbrev S512x512 : Shape := ⟨2, ![512, 512]⟩
abbrev S512x256 : Shape := ⟨2, ![512, 256]⟩
abbrev S1x256 : Shape := ⟨2, ![1, 256]⟩
abbrev S256x512 : Shape := ⟨2, ![256, 512]⟩

abbrev nBuf : Space → Nat
  | .hbm => 7
  | .vmem => 14
  | .smem => 2
  | _ => 0

abbrev bufTy : (tb : Table) → Fin (tcTables nBuf tb) → BufTy
  | .hbm, ⟨0, _⟩ => ⟨S4x4096x3072, .bf16⟩
  | .hbm, ⟨1, _⟩ => ⟨S4x3072x256, .i8⟩
  | .hbm, ⟨2, _⟩ => ⟨S4x256, .f32⟩
  | .hbm, ⟨3, _⟩ => ⟨S4x1x256, .f32⟩
  | .hbm, ⟨4, _⟩ => ⟨S21x512x512, .f32⟩
  | .hbm, ⟨5, _⟩ => ⟨S3072x256, .f32⟩
  | .hbm, ⟨6, _⟩ => ⟨S256x3072, .f32⟩
  | .local _ .vmem, ⟨0, _⟩ => ⟨S1x4096x512, .bf16⟩
  | .local _ .vmem, ⟨1, _⟩ => ⟨S1x4096x512, .bf16⟩
  | .local _ .vmem, ⟨2, _⟩ => ⟨S1x4096x512, .bf16⟩
  | .local _ .vmem, ⟨3, _⟩ => ⟨S1x4096x512, .bf16⟩
  | .local _ .vmem, ⟨4, _⟩ => ⟨S1x512x256, .i8⟩
  | .local _ .vmem, ⟨5, _⟩ => ⟨S1x512x256, .i8⟩
  | .local _ .vmem, ⟨6, _⟩ => ⟨S1x512x256, .i8⟩
  | .local _ .vmem, ⟨7, _⟩ => ⟨S1x512x256, .i8⟩
  | .local _ .vmem, ⟨8, _⟩ => ⟨S1x1x256, .f32⟩
  | .local _ .vmem, ⟨9, _⟩ => ⟨S1x1x256, .f32⟩
  | .local _ .vmem, ⟨10, _⟩ => ⟨S1x512x512, .f32⟩
  | .local _ .vmem, ⟨11, _⟩ => ⟨S1x512x512, .f32⟩
  | .local _ .vmem, ⟨12, _⟩ => ⟨S3072x256, .f32⟩
  | .local _ .vmem, ⟨13, _⟩ => ⟨S256x3072, .f32⟩
  | .local _ .smem, ⟨0, _⟩ => ⟨S21, .i32⟩
  | .local _ .smem, ⟨1, _⟩ => ⟨S21, .i32⟩
  | _, _ => ⟨S4x4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13

abbrev nD : Nat := 1
abbrev τ : Topo := Topo.v7x

variable {F : FTy → Type} [FloatOps F]

abbrev grid0 : Pipeline.Grid := ⟨2, ![21, 4], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_mult1 (v1 : BitVec 32) : BitVec 32 :=
  let c512_i32 : BitVec 32 := 512#32
  let v45 : BitVec 32 := Scalar.muli v1 c512_i32
  v45

def k0_off2 (v1 : BitVec 32) : Fin 2 → Nat :=
  let c512_i32 : BitVec 32 := 512#32
  let v45 : BitVec 32 := Scalar.muli v1 c512_i32
  let v46 : BitVec 32 := v45
  let v47 : Index := Scalar.indexCast v46
  let c0_19 : Index := 0#32
  ![v47.toNat, 0]

def k0_chk1 (v1 : BitVec 32) : Prop :=
  (512 ∣ (k0_mult1 v1).toNat) ∧
  (∀ a, (k0_off2 v1) a + S512x256.size a ≤ S3072x256.size a)
theorem k0_mult1_dvd : ∀ (v1 : BitVec 32) (k0_hw1 : k0_chk1 v1), 512 ∣ (k0_mult1 v1).toNat := fun v1 k0_hw1 => k0_hw1.1
theorem k0_off2_inb : ∀ (v1 : BitVec 32) (k0_hw1 : k0_chk1 v1), ∀ a, (k0_off2 v1) a + S512x256.size a ≤ S3072x256.size a := fun v1 k0_hw1 => k0_hw1.2

def k0_mult2 (v3 : BitVec 32) : BitVec 32 :=
  let c512_i32_31 : BitVec 32 := 512#32
  let v69 : BitVec 32 := Scalar.muli v3 c512_i32_31
  v69
def k0_cond4 (v1 : BitVec 32) (v3 : BitVec 32) : BitVec 1 :=
  let v58 : BitVec 1 := Scalar.cmpi .ne v1 v3
  let v59 : BitVec 32 := Scalar.extui v58
  let c0_i32_24 : BitVec 32 := 0#32
  let v60 : BitVec 1 := Scalar.cmpi .ne v59 c0_i32_24
  v60

def k0_off3 (v3 : BitVec 32) : Fin 2 → Nat :=
  let c0_32 : Index := 0#32
  let c512_i32_31 : BitVec 32 := 512#32
  let v69 : BitVec 32 := Scalar.muli v3 c512_i32_31
  let v70 : BitVec 32 := v69
  let v71 : Index := Scalar.indexCast v70
  ![0, v71.toNat]

def k0_chk2 (v1 : BitVec 32) (v3 : BitVec 32) : Prop :=
  (∀ (k0_h4 : k0_cond4 v1 v3 = 1#1), 512 ∣ (k0_mult2 v3).toNat) ∧
  (∀ (k0_h4 : k0_cond4 v1 v3 = 1#1), ∀ a, (k0_off3 v3) a + S256x512.size a ≤ S256x3072.size a)
theorem k0_mult2_dvd : ∀ (v1 : BitVec 32) (v3 : BitVec 32) (k0_hw2 : k0_chk2 v1 v3), ∀ (k0_h4 : k0_cond4 v1 v3 = 1#1), 512 ∣ (k0_mult2 v3).toNat := fun v1 v3 k0_hw2 k0_h4 => k0_hw2.1 k0_h4
theorem k0_off3_inb : ∀ (v1 : BitVec 32) (v3 : BitVec 32) (k0_hw2 : k0_chk2 v1 v3), ∀ (k0_h4 : k0_cond4 v1 v3 = 1#1), ∀ a, (k0_off3 v3) a + S256x512.size a ≤ S256x3072.size a := fun v1 v3 k0_hw2 k0_h4 => k0_hw2.2 k0_h4

def k0_cond2 (i : grid0.Coords) : BitVec 1 :=
  let arg1 : BitVec 32 := BitVec.ofNat 32 (i 1).val
  let c0_i32_9 : BitVec 32 := 0#32
  let v24 : BitVec 1 := Scalar.cmpi .eq arg1 c0_i32_9
  let v25 : BitVec 32 := Scalar.extui v24
  let c0_i32_10 : BitVec 32 := 0#32
  let v26 : BitVec 1 := Scalar.cmpi .ne v25 c0_i32_10
  v26

def k0_cond3 (i : grid0.Coords) : BitVec 1 :=
  let arg1 : BitVec 32 := BitVec.ofNat 32 (i 1).val
  let c0_i32_11 : BitVec 32 := 0#32
  let v27 : BitVec 1 := Scalar.cmpi .sgt arg1 c0_i32_11
  let v28 : BitVec 32 := Scalar.extui v27
  let c0_i32_12 : BitVec 32 := 0#32
  let v29 : BitVec 1 := Scalar.cmpi .ne v28 c0_i32_12
  v29

def k0_cond1 (i : grid0.Coords) : BitVec 1 :=
  let arg0 : BitVec 32 := BitVec.ofNat 32 (i 0).val
  let c0_i32 : BitVec 32 := 0#32
  let v4 : BitVec 1 := Scalar.cmpi .eq arg0 c0_i32
  let arg1 : BitVec 32 := BitVec.ofNat 32 (i 1).val
  let c0_i32_0 : BitVec 32 := 0#32
  let v5 : BitVec 1 := Scalar.cmpi .eq arg1 c0_i32_0
  let v6 : BitVec 1 := Scalar.andi v4 v5
  let v7 : BitVec 32 := Scalar.extui v6
  let c0_i32_1 : BitVec 32 := 0#32
  let v8 : BitVec 1 := Scalar.cmpi .ne v7 c0_i32_1
  v8

def cc0_transform_0 (k0_off1_inb : ∀ i : grid0.Coords, ∀ a, (k0_off1 i) a + S1.size a ≤ S21.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S21) ![v0.toNat] S1.size (k0_off1_inb i)) numel1_S1
  let c0_i32 : BitVec 32 := 0#32
  let c0_i32_0 : BitVec 32 := 0#32
  ![arg1.toNat, c0_i32.toNat, v1.toNat]

def cc0_transform_1 (k0_off1_inb : ∀ i : grid0.Coords, ∀ a, (k0_off1 i) a + S1.size a ≤ S21.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 1 (Rect.unit (s := S21) ![v0.toNat] S1.size (k0_off1_inb i)) numel1_S1
  let c0_i32 : BitVec 32 := 0#32
  let c0_i32_0 : BitVec 32 := 0#32
  ![arg1.toNat, c0_i32.toNat, v1.toNat]

def cc0_transform_2 (k0_off1_inb : ∀ i : grid0.Coords, ∀ a, (k0_off1 i) a + S1.size a ≤ S21.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S21) ![v0.toNat] S1.size (k0_off1_inb i)) numel1_S1
  let c0_i32 : BitVec 32 := 0#32
  let c0_i32_0 : BitVec 32 := 0#32
  ![arg1.toNat, v1.toNat, c0_i32.toNat]

def cc0_transform_3 (k0_off1_inb : ∀ i : grid0.Coords, ∀ a, (k0_off1 i) a + S1.size a ≤ S21.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 1 (Rect.unit (s := S21) ![v0.toNat] S1.size (k0_off1_inb i)) numel1_S1
  let c0_i32 : BitVec 32 := 0#32
  let c0_i32_0 : BitVec 32 := 0#32
  ![arg1.toNat, v1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S3072x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== ReferenceIdeal.lean ====
abbrev S4x4096x3072 : Shape := ⟨3, ![4, 4096, 3072]⟩
abbrev S4x3072x256 : Shape := ⟨3, ![4, 3072, 256]⟩
abbrev S4x256 : Shape := ⟨2, ![4, 256]⟩
abbrev S3072x3072 : Shape := ⟨2, ![3072, 3072]⟩
abbrev S4x3072x3072 : Shape := ⟨3, ![4, 3072, 3072]⟩
abbrev S_ : Shape := ⟨0, ![]⟩
abbrev S4x3072 : Shape := ⟨2, ![4, 3072]⟩
abbrev S3072 : Shape := ⟨1, ![3072]⟩
abbrev S3072x1 : Shape := ⟨2, ![3072, 1]⟩
abbrev S4x1x256 : Shape := ⟨3, ![4, 1, 256]⟩
abbrev S3072x256 : Shape := ⟨2, ![3072, 256]⟩
abbrev S256x3072 : Shape := ⟨2, ![256, 3072]⟩
abbrev S512x512 : Shape := ⟨2, ![512, 512]⟩
abbrev S1x512x512 : Shape := ⟨3, ![1, 512, 512]⟩
abbrev S16x512x512 : Shape := ⟨3, ![16, 512, 512]⟩
abbrev S5x512x512 : Shape := ⟨3, ![5, 512, 512]⟩
abbrev S21x512x512 : Shape := ⟨3, ![21, 512, 512]⟩

abbrev nBuf : Space → Nat
  | .hbm => 119
  | .vmem => 0
  | .smem => 0
  | _ => 0

abbrev bufTy : (tb : Table) → Fin (tcTables nBuf tb) → BufTy
  | .hbm, ⟨0, _⟩ => ⟨S4x4096x3072, .bf16⟩
  | .hbm, ⟨1, _⟩ => ⟨S4x3072x256, .i8⟩
  | .hbm, ⟨2, _⟩ => ⟨S4x256, .f32⟩
  | .hbm, ⟨3, _⟩ => ⟨S3072x3072, .i32⟩
  | .hbm, ⟨4, _⟩ => ⟨S3072x3072, .i32⟩
  | .hbm, ⟨5, _⟩ => ⟨S4x3072x3072, .f32⟩
  | .hbm, ⟨6, _⟩ => ⟨S_, .f32⟩
  | .hbm, ⟨7, _⟩ => ⟨S4x3072x3072, .f32⟩
  | .hbm, ⟨8, _⟩ => ⟨S4x3072x3072, .f32⟩
  | .hbm, ⟨9, _⟩ => ⟨S3072x3072, .i1⟩
  | .hbm, ⟨10, _⟩ => ⟨S_, .f32⟩
  | .hbm, ⟨11, _⟩ => ⟨S_, .f32⟩
  | .hbm, ⟨12, _⟩ => ⟨S4x3072x3072, .i1⟩
  | .hbm, ⟨13, _⟩ => ⟨S4x3072x3072, .f32⟩
  | .hbm, ⟨14, _⟩ => ⟨S4x3072x3072, .f32⟩
  | .hbm, ⟨15, _⟩ => ⟨S_, .f32⟩
  | .hbm, ⟨16, _⟩ => ⟨S4x3072, .f32⟩
  | .hbm, ⟨17, _⟩ => ⟨S3072x3072, .i1⟩
  | .hbm, ⟨18, _⟩ => ⟨S_, .f32⟩
  | .hbm, ⟨19, _⟩ => ⟨S3072, .f32⟩
  | .hbm, ⟨20, _⟩ => ⟨S3072x1, .f32⟩
  | .hbm, ⟨21, _⟩ => ⟨S_, .f32⟩
  | .hbm, ⟨22, _⟩ => ⟨S_, .f32⟩
  | .hbm, ⟨23, _⟩ => ⟨S3072x3072, .f32⟩
  | .hbm, ⟨24, _⟩ => ⟨S3072x3072, .f32⟩
  | .hbm, ⟨25, _⟩ => ⟨S3072x3072, .f32⟩
  | .hbm, ⟨26, _⟩ => ⟨S_, .f32⟩
  | .hbm, ⟨27, _⟩ => ⟨S3072x3072, .f32⟩
  | .hbm, ⟨28, _⟩ => ⟨S_, .f32⟩
  | .hbm, ⟨29, _⟩ => ⟨S3072x3072, .f32⟩
  | .hbm, ⟨30, _⟩ => ⟨S3072x3072, .f32⟩
  | .hbm, ⟨31, _⟩ => ⟨S_, .f32⟩
  | .hbm, ⟨32, _⟩ => ⟨S3072x3072, .f32⟩
  | .hbm, ⟨33, _⟩ => ⟨S3072x3072, .f32⟩
  | .hbm, ⟨34, _⟩ => ⟨S3072x3072, .f32⟩
  | .hbm, ⟨35, _⟩ => ⟨S4x3072x256, .i32⟩
  | .hbm, ⟨36, _⟩ => ⟨S4x3072x256, .f32⟩
  | .hbm, ⟨37, _⟩ => ⟨S4x3072x256, .bf16⟩
  | .hbm, ⟨38, _⟩ => ⟨S4x256, .bf16⟩
  | .hbm, ⟨39, _⟩ => ⟨S4x1x256, .bf16⟩
  | .hbm, ⟨40, _⟩ => ⟨S4x3072x256, .bf16⟩
  | .hbm, ⟨41, _⟩ => ⟨S4x3072x256, .bf16⟩
  | .hbm, ⟨42, _⟩ => ⟨S4x3072x256, .f32⟩
  | .hbm, ⟨43, _⟩ => ⟨S_, .i32⟩
  | .hbm, ⟨44, _⟩ => ⟨S3072x3072, .i32⟩
  | .hbm, ⟨45, _⟩ => ⟨S3072x3072, .i32⟩
  | .hbm, ⟨46, _⟩ => ⟨S_, .i32⟩
  | .hbm, ⟨47, _⟩ => ⟨S3072x3072, .i32⟩
  | .hbm, ⟨48, _⟩ => ⟨S3072x3072, .i32⟩
  | .hbm, ⟨49, _⟩ => ⟨S3072x3072, .i1⟩
  | .hbm, ⟨50, _⟩ => ⟨S_, .f32⟩
  | .hbm, ⟨51, _⟩ => ⟨S_, .f32⟩
  | .hbm, ⟨52, _⟩ => ⟨S4x3072x3072, .i1⟩
  | .hbm, ⟨53, _⟩ => ⟨S4x3072x3072, .f32⟩
  | .hbm, ⟨54, _⟩ => ⟨S4x3072x3072, .f32⟩
  | .hbm, ⟨55, _⟩ => ⟨S3072x256, .f32⟩
  | .hbm, ⟨56, _⟩ => ⟨S_, .f32⟩
  | .hbm, ⟨57, _⟩ => ⟨S_, .f32⟩
  | .hbm, ⟨58, _⟩ => ⟨S4x3072x3072, .i1⟩
  | .hbm, ⟨59, _⟩ => ⟨S4x3072x3072, .f32⟩
  | .hbm, ⟨60, _⟩ => ⟨S4x3072x3072, .f32⟩
  | .hbm, ⟨61, _⟩ => ⟨S3072x256, .f32⟩
  | .hbm, ⟨62, _⟩ => ⟨S3072x256, .f32⟩
  | .hbm, ⟨63, _⟩ => ⟨S_, .f32⟩
  | .hbm, ⟨64, _⟩ => ⟨S3072x256, .f32⟩
  | .hbm, ⟨65, _⟩ => ⟨S3072x256, .f32⟩
  | .hbm, ⟨66, _⟩ => ⟨S_, .f32⟩
  | .hbm, ⟨67, _⟩ => ⟨S3072x256, .f32⟩
  | .hbm, ⟨68, _⟩ => ⟨S3072x256, .f32⟩
  | .hbm, ⟨69, _⟩ => ⟨S3072x256, .f32⟩
  | .hbm, ⟨70, _⟩ => ⟨S_, .f32⟩
  | .hbm, ⟨71, _⟩ => ⟨S3072x256, .f32⟩
  | .hbm, ⟨72, _⟩ => ⟨S3072x256, .f32⟩
  | .hbm, ⟨73, _⟩ => ⟨S256x3072, .f32⟩
  | .hbm, ⟨74, _⟩ => ⟨S512x512, .f32⟩
  | .hbm, ⟨75, _⟩ => ⟨S1x512x512, .f32⟩
  | .hbm, ⟨76, _⟩ => ⟨S512x512, .f32⟩
  | .hbm, ⟨77, _⟩ => ⟨S1x512x512, .f32⟩
  | .hbm, ⟨78, _⟩ => ⟨S512x512, .f32⟩
  | .hbm, ⟨79, _⟩ => ⟨S1x512x512, .f32⟩
  | .hbm, ⟨80, _⟩ => ⟨S512x512, .f32⟩
  | .hbm, ⟨81, _⟩ => ⟨S1x512x512, .f32⟩
  | .hbm, ⟨82, _⟩ => ⟨S512x512, .f32⟩
  | .hbm, ⟨83, _⟩ => ⟨S1x512x512, .f32⟩
  | .hbm, ⟨84, _⟩ => ⟨S512x512, .f32⟩
  | .hbm, ⟨85, _⟩ => ⟨S1x512x512, .f32⟩
  | .hbm, ⟨86, _⟩ => ⟨S512x512, .f32⟩
  | .hbm, ⟨87, _⟩ => ⟨S1x512x512, .f32⟩
  | .hbm, ⟨88, _⟩ => ⟨S512x512, .f32⟩
  | .hbm, ⟨89, _⟩ => ⟨S1x512x512, .f32⟩
  | .hbm, ⟨90, _⟩ => ⟨S512x512, .f32⟩
  | .hbm, ⟨91, _⟩ => ⟨S1x512x512, .f32⟩
  | .hbm, ⟨92, _⟩ => ⟨S512x512, .f32⟩
  | .hbm, ⟨93, _⟩ => ⟨S1x512x512, .f32⟩
  | .hbm, ⟨94, _⟩ => ⟨S512x512, .f32⟩
  | .hbm, ⟨95, _⟩ => ⟨S1x512x512, .f32⟩
  | .hbm, ⟨96, _⟩ => ⟨S512x512, .f32⟩
  | .hbm, ⟨97, _⟩ => ⟨S1x512x512, .f32⟩
  | .hbm, ⟨98, _⟩ => ⟨S512x512, .f32⟩
  | .hbm, ⟨99, _⟩ => ⟨S1x512x512, .f32⟩
  | .hbm, ⟨100, _⟩ => ⟨S512x512, .f32⟩
  | .hbm, ⟨101, _⟩ => ⟨S1x512x512, .f32⟩
  | .hbm, ⟨102, _⟩ => ⟨S512x512, .f32⟩
  | .hbm, ⟨103, _⟩ => ⟨S1x512x512, .f32⟩
  | .hbm, ⟨104, _⟩ => ⟨S512x512, .f32⟩
  | .hbm, ⟨105, _⟩ => ⟨S1x512x512, .f32⟩
  | .hbm, ⟨106, _⟩ => ⟨S512x512, .f32⟩
  | .hbm, ⟨107, _⟩ => ⟨S1x512x512, .f32⟩
  | .hbm, ⟨108, _⟩ => ⟨S512x512, .f32⟩
  | .hbm, ⟨109, _⟩ => ⟨S1x512x512, .f32⟩
  | .hbm, ⟨110, _⟩ => ⟨S512x512, .f32⟩
  | .hbm, ⟨111, _⟩ => ⟨S1x512x512, .f32⟩
  | .hbm, ⟨112, _⟩ => ⟨S512x512, .f32⟩
  | .hbm, ⟨113, _⟩ => ⟨S1x512x512, .f32⟩
  | .hbm, ⟨114, _⟩ => ⟨S512x512, .f32⟩
  | .hbm, ⟨115, _⟩ => ⟨S1x512x512, .f32⟩
  | .hbm, ⟨116, _⟩ => ⟨S16x512x512, .f32⟩
  | .hbm, ⟨117, _⟩ => ⟨S5x512x512, .f32⟩
  | .hbm, ⟨118, _⟩ => ⟨S21x512x512, .f32⟩
  | _, _ => ⟨S4x4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v11 : Ref sig .tc := ⟨.hbm, 25, rfl⟩
abbrev main_cst_4 : Ref sig .tc := ⟨.hbm, 26, rfl⟩
abbrev main_v12 : Ref sig .tc := ⟨.hbm, 27, rfl⟩
abbrev main_cst_5 : Ref sig .tc := ⟨.hbm, 28, rfl⟩
abbrev main_v13 : Ref sig .tc := ⟨.hbm, 29, rfl⟩
abbrev main_v14 : Ref sig .tc := ⟨.hbm, 30, rfl⟩
abbrev main_cst_6 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c : Ref sig .tc := ⟨.hbm, 43, rfl⟩
abbrev main_v26 : Ref sig .tc := ⟨.hbm, 44, rfl⟩
abbrev main_v27 : Ref sig .tc := ⟨.hbm, 45, rfl⟩
abbrev main_c_7 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_8 : Ref sig .tc := ⟨.hbm, 50, rfl⟩
abbrev main_call2_v0 : Ref sig .tc := ⟨.hbm, 51, rfl⟩
abbrev main_call2_v1 : Ref sig .tc := ⟨.hbm, 52, rfl⟩
abbrev main_call2_v2 : Ref sig .tc := ⟨.hbm, 53, rfl⟩
abbrev main_v31 : Ref sig .tc := ⟨.hbm, 54, rfl⟩
abbrev main_v32 : Ref sig .tc := ⟨.hbm, 55, rfl⟩
abbrev main_cst_9 : Ref sig .tc := ⟨.hbm, 56, rfl⟩
abbrev main_call3_v0 : Ref sig .tc := ⟨.hbm, 57, rfl⟩
abbrev main_call3_v1 : Ref sig .tc := ⟨.hbm, 58, rfl⟩
abbrev main_call3_v2 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_cst_10 : Ref sig .tc := ⟨.hbm, 63, rfl⟩
abbrev main_v36 : Ref sig .tc := ⟨.hbm, 64, rfl⟩
abbrev main_v37 : Ref sig .tc := ⟨.hbm, 65, rfl⟩
abbrev main_cst_11 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_12 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩

abbrev nD : Nat := 1
abbrev τ : Topo := Topo.v7x

variable {F : FTy → Type} [FloatOps F]
-- ==== Proof.Kernel.Base.lean ====
/- The schedule of the launch, the contents of its two tile-index tables, the blocks of its input windows and the conditions of the kernel body, for one printing of the kernel. -/
module

public import proofs.«01_k».proof.Proof.Gen.Kernel
public import proofs.«01_k».proof.Proof.Gen.Kernel.Launch
public import proofs.«01_k».proof.Proof.Gen.Kernel.Skeleton
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Window 4 (operand 6 (%0)) is fetched at every point, at any contents of the tables (its index map reads none). -/
theorem fetch0_4 (a : (pcfg0 (F := F)).Adm) : ∀ t : Fin (cfg0 a).N, ((cfg0 a).win 4).fetch t = true :=
  (fun t => (Pipeline.Window.fetchOf_reads cc0_transform_4 reads0_4 hreads0_4 1 (by decide) (by decide) (Pipeline.Window.sep_of_coord cc0_transform_4 1 0 (fun _ => rfl) (by decide)) (P := 1) (by decide) t).mpr (Nat.mod_one _) : ∀ t : Fin grid0.N, Pipeline.Window.fetchOf grid0 false cc0_transform_4 t = true)
/-- Window 5 (result 0 (%1#0)) is written back at the points ≡ 3 (mod 4), at any contents of the tables (its index map reads none). -/
theorem flush0_5 (a : (pcfg0 (F := F)).Adm) : ∀ t : Fin (cfg0 a).N, ((cfg0 a).win 5).flush t = true ↔ t.val % 4 = 3 :=
  (fun t => Pipeline.Window.flushOf_reads cc0_transform_5 reads0_5 hreads0_5 0 (by decide) (by decide) (Pipeline.Window.sep_of_coord cc0_transform_5 0 0 (fun _ => rfl) (by decide)) (P := 4) (m := 3) (by decide) rfl t : ∀ t : Fin grid0.N, Pipeline.Window.flushOf grid0 true cc0_transform_5 t = true ↔ t.val % 4 = 3)
/-- Window 6 (result 1 (%1#1)) is written back at the last point only, at any contents of the tables (its index map reads none). -/
theorem flush0_6 (a : (pcfg0 (F := F)).Adm) : ∀ t : Fin (cfg0 a).N, ((cfg0 a).win 6).flush t = true ↔ t.val % 84 = 83 :=
  (fun t => Pipeline.Window.flushOf_const cc0_transform_6 (fun _ _ => rfl) (n := 84) (by decide) rfl t : ∀ t : Fin grid0.N, Pipeline.Window.flushOf grid0 true cc0_transform_6 t = true ↔ t.val % 84 = 83)
/-- Window 7 (result 2 (%1#2)) is written back at the last point only, at any contents of the tables (its index map reads none). -/
theorem flush0_7 (a : (pcfg0 (F := F)).Adm) : ∀ t : Fin (cfg0 a).N, ((cfg0 a).win 7).flush t = true ↔ t.val % 84 = 83 :=
  (fun t => Pipeline.Window.flushOf_const cc0_transform_7 (fun _ _ => rfl) (n := 84) (by decide) rfl t : ∀ t : Fin grid0.N, Pipeline.Window.flushOf grid0 true cc0_transform_7 t = true ↔ t.val % 84 = 83)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_gram (grid0.coords t) (Memref.whole main_c) (Memref.isWhole_whole _) (Memref.whole main_c_0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7))

/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 2) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S21 .i32 := Memref.whole main_c
abbrev htbM0_0 : tbM0_0.IsWhole := Memref.isWhole_whole _
abbrev tbM0_1 : Memref sig .tc .smem S21 .i32 := Memref.whole main_c_0
abbrev htbM0_1 : tbM0_1.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(Pipeline.RDat.FramePost.arr_in h c 1 rfl).trans ((hA c 1).trans (V_main_arg0 m c)),
      (Pipeline.RDat.FramePost.arr_in h c 3 rfl).trans ((hA c 3).trans (V_main_arg1 m c)),
      ((h c).2 main_arg2 (by decide : main_arg2 ∈ Pipeline.restRefs sig spec0)).trans (V_main_arg2 m c)⟩) h

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin grid0.N, cond0_0 (grid0.coords t) ↔ t.val % 84 = 0 :=
  (fun t => by
    have ht : t.val < 84 := Nat.lt_of_lt_of_eq t.isLt N_0
    have e0 : (grid0.coords t 0).val = t.val / 4 % 21 := Pipeline.Grid.coords_val t 0 (by decide) rfl
    have e1 : (grid0.coords t 1).val = t.val / 1 % 4 := Pipeline.Grid.coords_val t 1 (by decide) rfl
    simp only [cond0_0, k0_cond1, e0, e1]
    word_cmp
   : ∀ t : Fin grid0.N, cond0_0 (grid0.coords t) ↔ t.val % 84 = 0)

/-- The condition of the body's `scf.if` 1 (`k0_h2`), from the grid coordinates (the skeleton's scalar
    chain substituted). -/
abbrev cond0_1 (i : grid0.Coords) : Prop := k0_cond2 i = 1#1
/-- It holds at the points ≡ 0 (mod 4) — by arithmetic of the point. -/
theorem hcond0_1 : ∀ t : Fin grid0.N, cond0_1 (grid0.coords t) ↔ t.val % 4 = 0 :=
  (fun t => by
    have ht : t.val < 84 := Nat.lt_of_lt_of_eq t.isLt N_0
    have e0 : (grid0.coords t 0).val = t.val / 4 % 21 := Pipeline.Grid.coords_val t 0 (by decide) rfl
    have e1 : (grid0.coords t 1).val = t.val / 1 % 4 := Pipeline.Grid.coords_val t 1 (by decide) rfl
    simp only [cond0_1, k0_cond2, e0, e1]
    word_cmp
   : ∀ t : Fin grid0.N, cond0_1 (grid0.coords t) ↔ t.val % 4 = 0)

/-- The condition of the body's `scf.if` 2 (`k0_h3`), from the grid coordinates (the skeleton's scalar
    chain substituted). -/
abbrev cond0_2 (i : grid0.Coords) : Prop := k0_cond3 i = 1#1
/-- It holds at the points whose coordinates have 1 ≤ i1 — decided over the grid. -/
theorem hcond0_2 : ∀ t : Fin grid0.N, cond0_2 (grid0.coords t) ↔ 1 ≤ t.val % 4 :=
  (by decide +kernel : ∀ t : Fin grid0.N, cond0_2 (grid0.coords t) ↔ 1 ≤ t.val % 4)

/-- Window 0 is never idle (an input). -/
theorem liveAt0_0 (hO : Ok m) : ∀ t : Fin (cfgM m hO).N, (cfgM m hO).idle 0 (grid0.coords t) = false :=
  fun _ => rfl
/-- Window 1 is never idle (an input). -/
theorem liveAt0_1 (hO : Ok m) : ∀ t : Fin (cfgM m hO).N, (cfgM m hO).idle 1 (grid0.coords t) = false :=
  fun _ => rfl
/-- Window 2 is never idle (an input). -/
theorem liveAt0_2 (hO : Ok m) : ∀ t : Fin (cfgM m hO).N, (cfgM m hO).idle 2 (grid0.coords t) = false :=
  fun _ => rfl
/-- Window 3 is never idle (an input). -/
theorem liveAt0_3 (hO : Ok m) : ∀ t : Fin (cfgM m hO).N, (cfgM m hO).idle 3 (grid0.coords t) = false :=
  fun _ => rfl
/-- Window 4 is never idle (an input). -/
theorem liveAt0_4 (hO : Ok m) : ∀ t : Fin (cfgM m hO).N, (cfgM m hO).idle 4 (grid0.coords t) = false :=
  fun _ => rfl
/-- Each window's current staging memref at point `t`, spelled as the pipeline passes it (`bodyAt0`), and its wholeness. -/
abbrev ms0_0 (hO : Ok m) (t : Fin (cfgM m hO).N) : Memref sig .tc .vmem S1x4096x512 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x4096x512 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x512x256 .i8 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x512x256 .i8 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1x256 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x512x512 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S3072x256 .f32 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S256x3072 .f32 := spec0_7.stage ((cfgM m hO).slots t 7)
abbrev hs0_7 (hO : Ok m) (t : Fin (cfgM m hO).N) : (ms0_7 m hO t).IsWhole := hstage0_7 (((cfgM m hO).slots t 7).cast nbuf0_7)

/-! ## The tables -/

/-- The two tables of tile indices, as the host wrote them. -/
theorem tbl_0 : tbl m 0 = fun i => lit0 (S21.rowMajor i) := by
  unfold tbl
  show StableHlo.after hostOps0 (fun b => m ((0 : Dev nD), b)) (Proc.devRef .tc main_c) = _
  after_results
  rfl
theorem tbl_1 : tbl m 1 = fun i => lit1 (S21.rowMajor i) := by
  unfold tbl
  show StableHlo.after hostOps0 (fun b => m ((0 : Dev nD), b)) (Proc.devRef .tc main_c_0) = _
  after_results
  rfl

/-- The row tile and the column tile of grid point `i`. -/
def rowT (i : grid0.Coords) : BitVec 32 := lit0 (i 0)
def colT (i : grid0.Coords) : BitVec 32 := lit1 (i 0)

/-- The element of a table that a grid point reads is the one of its first coordinate. -/
theorem word_ix_val : ∀ i : grid0.Coords, (S21.rowMajor ((Rect.unit (s := S21) (k0_off1 i) S1.size (k0_off1_inb i)).emb (Shape.Idx.first (numel1_S1.symm ▸ Nat.one_pos)))).val = (i 0).val := by
  decide +kernel
theorem word_ix (i : grid0.Coords) : S21.rowMajor ((Rect.unit (s := S21) (k0_off1 i) S1.size (k0_off1_inb i)).emb (Shape.Idx.first (numel1_S1.symm ▸ Nat.one_pos))) = i 0 :=
  Fin.ext (word_ix_val i)

/-- The words the body reads of the tables at a grid point. -/
theorem word_0 (i : grid0.Coords) : tbM0_0.view.readAt (Elt F) (Rect.unit (s := S21) (k0_off1 i) S1.size (k0_off1_inb i)).toLoadRect (tbl m 0) (Shape.Idx.first (numel1_S1.symm ▸ Nat.one_pos)) = rowT i := by
  exact (congrFun (tbl_0 m) ((Rect.unit (s := S21) (k0_off1 i) S1.size (k0_off1_inb i)).emb (Shape.Idx.first (numel1_S1.symm ▸ Nat.one_pos)))).trans (congrArg lit0 (word_ix i))
theorem word_1 (i : grid0.Coords) : tbM0_1.view.readAt (Elt F) (Rect.unit (s := S21) (k0_off1 i) S1.size (k0_off1_inb i)).toLoadRect (tbl m 1) (Shape.Idx.first (numel1_S1.symm ▸ Nat.one_pos)) = colT i := by
  exact (congrFun (tbl_1 m) ((Rect.unit (s := S21) (k0_off1 i) S1.size (k0_off1_inb i)).emb (Shape.Idx.first (numel1_S1.symm ▸ Nat.one_pos)))).trans (congrArg lit1 (word_ix i))

/-- The words the block indices of the windows read of the tables at a grid point. -/
theorem at_0 (i : grid0.Coords) : (tbl m).at 0 (Rect.unit (s := S21) (k0_off1 i) S1.size (k0_off1_inb i)) numel1_S1 = rowT i := by
  show tbl m 0 _ = _
  rw [tbl_0]
  exact congrArg lit0 (word_ix i)
theorem at_1 (i : grid0.Coords) : (tbl m).at 1 (Rect.unit (s := S21) (k0_off1 i) S1.size (k0_off1_inb i)) numel1_S1 = colT i := by
  show tbl m 1 _ = _
  rw [tbl_1]
  exact congrArg lit1 (word_ix i)

/-- The block index of each input window whose index map reads a table, at a grid point. -/
theorem tr_0 (i : grid0.Coords) : cc0_transform_0 k0_off1_inb numel1_S1 (tbl m) i = ![(BitVec.ofNat 32 (i 1).val).toNat, (0#32).toNat, (rowT i).toNat] := by
  rw [← at_0 m i]; rfl
theorem tr_1 (i : grid0.Coords) : cc0_transform_1 k0_off1_inb numel1_S1 (tbl m) i = ![(BitVec.ofNat 32 (i 1).val).toNat, (0#32).toNat, (colT i).toNat] := by
  rw [← at_1 m i]; rfl
theorem tr_2 (i : grid0.Coords) : cc0_transform_2 k0_off1_inb numel1_S1 (tbl m) i = ![(BitVec.ofNat 32 (i 1).val).toNat, (rowT i).toNat, (0#32).toNat] := by
  rw [← at_0 m i]; rfl
theorem tr_3 (i : grid0.Coords) : cc0_transform_3 k0_off1_inb numel1_S1 (tbl m) i = ![(BitVec.ofNat 32 (i 1).val).toNat, (colT i).toNat, (0#32).toNat] := by
  rw [← at_1 m i]; rfl

/-- Every block the tables select lies inside its array and is moved in whole words, window by window, -/
theorem ok_0 : ∀ i : grid0.Coords, ∃ h : (∀ a, ((![(BitVec.ofNat 32 (i 1).val).toNat, (0#32).toNat, (rowT i).toNat] : Fin 3 → Nat) a + 1) * S1x4096x512.size a ≤ S4x4096x3072.size a), EltTy.bits .bf16 = 32 ∨ (Rect.block (s := S4x4096x3072) S1x4096x512.size (![(BitVec.ofNat 32 (i 1).val).toNat, (0#32).toNat, (rowT i).toNat] : Fin 3 → Nat) h).WholeWords (EltTy.packing .bf16) := by
  decide +kernel
theorem ok_1 : ∀ i : grid0.Coords, ∃ h : (∀ a, ((![(BitVec.ofNat 32 (i 1).val).toNat, (0#32).toNat, (colT i).toNat] : Fin 3 → Nat) a + 1) * S1x4096x512.size a ≤ S4x4096x3072.size a), EltTy.bits .bf16 = 32 ∨ (Rect.block (s := S4x4096x3072) S1x4096x512.size (![(BitVec.ofNat 32 (i 1).val).toNat, (0#32).toNat, (colT i).toNat] : Fin 3 → Nat) h).WholeWords (EltTy.packing .bf16) := by
  decide +kernel
theorem ok_2 : ∀ i : grid0.Coords, ∃ h : (∀ a, ((![(BitVec.ofNat 32 (i 1).val).toNat, (rowT i).toNat, (0#32).toNat] : Fin 3 → Nat) a + 1) * S1x512x256.size a ≤ S4x3072x256.size a), EltTy.bits .i8 = 32 ∨ (Rect.block (s := S4x3072x256) S1x512x256.size (![(BitVec.ofNat 32 (i 1).val).toNat, (rowT i).toNat, (0#32).toNat] : Fin 3 → Nat) h).WholeWords (EltTy.packing .i8) := by
  decide +kernel
theorem ok_3 : ∀ i : grid0.Coords, ∃ h : (∀ a, ((![(BitVec.ofNat 32 (i 1).val).toNat, (colT i).toNat, (0#32).toNat] : Fin 3 → Nat) a + 1) * S1x512x256.size a ≤ S4x3072x256.size a), EltTy.bits .i8 = 32 ∨ (Rect.block (s := S4x3072x256) S1x512x256.size (![(BitVec.ofNat 32 (i 1).val).toNat, (colT i).toNat, (0#32).toNat] : Fin 3 → Nat) h).WholeWords (EltTy.packing .i8) := by
  decide +kernel
/-- and together: the side condition of the tables. -/
theorem ok : Ok m := by
  unfold Ok ok0
  simp only [tr_0, tr_1, tr_2, tr_3]
  exact ⟨ok_0, ok_1, ok_2, ok_3⟩

/-- The rows and the columns the body updates lie inside its outputs. -/
theorem chk1 : ∀ i : grid0.Coords, k0_chk1 (rowT i) := by decide +kernel
theorem chk2 : ∀ i : grid0.Coords, k0_chk2 (rowT i) (colT i) := by decide +kernel

/-- The condition of the strictly-upper update: the two tiles differ. -/
abbrev cond0_3 (i : grid0.Coords) : Prop := k0_cond4 (rowT i) (colT i) = 1#1

theorem off1_lt : ∀ i : grid0.Coords, ∀ a : Fin 1, k0_off1 i a + 1 ≤ S21.size a := by decide +kernel

/-- The same words as the table of idle points reads them. -/
theorem atD_0 (i : grid0.Coords) : (tbl m).atD 0 (k0_off1 i) = rowT i := by
  have h : ∀ a : Fin (pre0.ref 0).ty.shape.rank, k0_off1 i a + 1 ≤ (pre0.ref 0).ty.shape.size a := off1_lt i
  refine (dif_pos h).trans ?_
  rw [tbl_0]
  exact congrArg lit0 (word_ix i)
theorem atD_1 (i : grid0.Coords) : (tbl m).atD 1 (k0_off1 i) = colT i := by
  have h : ∀ a : Fin (pre0.ref 1).ty.shape.rank, k0_off1 i a + 1 ≤ (pre0.ref 1).ty.shape.size a := off1_lt i
  refine (dif_pos h).trans ?_
  rw [tbl_1]
  exact congrArg lit1 (word_ix i)

end Cert.Kernel.Gen

end
-- ==== Proof.Kernel.Body.lean ====
/- One run of the kernel body: what each output buffer holds after a grid point, as a function of what it held before. -/
module

public import proofs.«01_k».proof.Proof.Kernel.Base

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Overwriting a rectangle -/

/-- Contents `X` with the rectangle `r` overwritten by `w`. -/
def upd {s : Shape} {α : Type} (r : Rect s) (w : r.shape.Idx → α) (X : s.Idx → α) : s.Idx → α :=
  fun y => if h : ∃ x, r.emb x = y then w h.choose else X y

theorem upd_emb {s : Shape} {α : Type} (r : Rect s) (w : r.shape.Idx → α) (X : s.Idx → α) (x : r.shape.Idx) :
    upd r w X (r.emb x) = w x := by
  have h : ∃ x', r.emb x' = r.emb x := ⟨x, rfl⟩
  unfold upd
  rw [dif_pos h]
  exact congrArg w (r.emb.injective h.choose_spec)

theorem upd_not {s : Shape} {α : Type} (r : Rect s) (w : r.shape.Idx → α) (X : s.Idx → α) (y : s.Idx)
    (h : ∀ x, r.emb x ≠ y) : upd r w X y = X y := by
  unfold upd
  rw [dif_neg (fun ⟨x, hx⟩ => h x hx)]

/-- What a buffer reads after a store through a rectangle. -/
theorem read_writes_cons_upd {κ : Kind} {sp : Space} {s : Shape} {e : EltTy} (v : View sig κ sp s e) (f : v.ty.Contents (Elt F))
    (r : Rect s) (w : r.shape.Idx → Elt F e) (L : List (View.Piece (Elt F) s e)) :
    v.read (Elt F) (v.writes (Elt F) f (⟨r, w⟩ :: L)) = upd r w (v.read (Elt F) (v.writes (Elt F) f L)) := by
  funext y
  by_cases h : ∃ x, r.emb x = y
  · obtain ⟨x, rfl⟩ := h
    rw [View.read_writes_cons_emb, upd_emb]
  · rw [upd_not _ _ _ _ (fun x hx => h ⟨x, hx⟩)]
    refine View.read_writes_cons_miss v f ⟨r, w⟩ L y fun hy => h ?_
    obtain ⟨x, hx⟩ := r.exists_idx_of_mem hy
    exact ⟨x, hx⟩

/-! ## What one grid point leaves in the outputs -/

/-- The tile of the merged matrix after a grid point: this point's contribution at the first batch, added to what was
    there at the others. -/
def step5 (i : grid0.Coords) (v1 v3 : BitVec 32) (x0 x1 : Vec F S1x4096x512 .bf16) (d : Vec F S1x512x512 .f32) : Vec F S1x512x512 .f32 :=
  if cond0_1 i then k0_pay6 v1 v3 x0 x1 else k0_pay7 v1 v3 x0 x1 d

/-- The right-hand side accumulator as the point's updates find it: zero at the first point. -/
def base6 (i : grid0.Coords) (d : Vec F S3072x256 .f32) : Vec F S3072x256 .f32 := if cond0_0 i then k0_pay3 else d
def base7 (i : grid0.Coords) (d : Vec F S256x3072 .f32) : Vec F S256x3072 .f32 := if cond0_0 i then k0_pay4 else d

/-- The right-hand side accumulator after a grid point: the point's row tile increased. -/
def step6 (i : grid0.Coords) (v1 v3 : BitVec 32) (h1 : k0_chk1 v1) (x0 x1 : Vec F S1x4096x512 .bf16) (x3 : Vec F S1x512x256 .i8) (x4 : Vec F S1x1x256 .f32)
    (d : Vec F S3072x256 .f32) : Vec F S3072x256 .f32 :=
  upd (Rect.unit (s := S3072x256) (k0_off2 v1) S512x256.size (k0_off2_inb v1 h1))
    (k0_pay1 (k0_pay8 v1 v3 x0 x1) (k0_pay10 v1 v3 x0 x1) (k0_pay11 v1 v3 x0 x1) x3 x4
      (fun x => base6 i d ((Rect.unit (s := S3072x256) (k0_off2 v1) S512x256.size (k0_off2_inb v1 h1)).emb x)))
    (base6 i d)

/-- The transposed accumulator after a grid point: the point's column tile increased when the two tiles differ. -/
def step7 (i : grid0.Coords) (v1 v3 : BitVec 32) (h2 : k0_chk2 v1 v3) (x0 x1 : Vec F S1x4096x512 .bf16) (x2 : Vec F S1x512x256 .i8) (x4 : Vec F S1x1x256 .f32)
    (d : Vec F S256x3072 .f32) : Vec F S256x3072 .f32 :=
  if h : k0_cond4 v1 v3 = 1#1 then
    upd (Rect.unit (s := S256x3072) (k0_off3 v3) S256x512.size (k0_off3_inb v1 v3 h2 h))
      (k0_pay2 (k0_pay8 v1 v3 x0 x1) (k0_pay10 v1 v3 x0 x1) (k0_pay11 v1 v3 x0 x1) x2 x4
        (fun x => base7 i d ((Rect.unit (s := S256x3072) (k0_off3 v3) S256x512.size (k0_off3_inb v1 v3 h2 h)).emb x)))
      (base7 i d)
  else base7 i d

theorem unit_emb_whole {s : Shape} (off : Fin s.rank → ℕ) (inb : ∀ a, off a + s.size a ≤ s.size a) (y : s.Idx) :
    (Rect.unit (s := s) off s.size inb).emb y = y := by
  funext a
  apply Fin.ext
  have := inb a
  rw [Rect.emb_apply, Rect.off_unit, Rect.stride_unit]
  omega

/-- A store over the whole of a shape leaves the stored value. -/
theorem upd_whole {s : Shape} {α : Type} (off : Fin s.rank → ℕ) (inb : ∀ a, off a + s.size a ≤ s.size a) (w : s.Idx → α) (X : s.Idx → α) :
    upd (Rect.unit (s := s) off s.size inb) w X = w := by
  funext y
  have := upd_emb (Rect.unit (s := s) off s.size inb) w X y
  rwa [unit_emb_whole] at this

/-- A load of the whole of a buffer that holds `x` gives `x`. -/
theorem readAt_whole {κ : Kind} {sp : Space} {s : Shape} {e : EltTy} (a : Memref sig κ sp s e) (ha : a.IsWhole) (x : Vec F s e)
    (off : Fin s.rank → ℕ) (inb : ∀ k, off k + s.size k ≤ s.size k) :
    a.view.readAt (Elt F) (Rect.unit (s := s) off s.size inb).toLoadRect (ha.unread x) = x := by
  have h : a.view.read (Elt F) (ha.unread x) = x := ha.read_unread x
  have h2 : a.view.readAt (Elt F) (Rect.unit (s := s) off s.size inb).toLoadRect (ha.unread x)
      = fun y => a.view.read (Elt F) (ha.unread x) ((Rect.unit (s := s) off s.size inb).emb y) := rfl
  rw [h2, h]
  funext y
  exact congrArg x (unit_emb_whole off inb y)

theorem step5_pos (i : grid0.Coords) {v1 v3 w1 w3 : BitVec 32} {x0 x1 y0 y1 : Vec F S1x4096x512 .bf16} (d : Vec F S1x512x512 .f32)
    (h : cond0_1 i) (e1 : w1 = v1) (e3 : w3 = v3) (e0 : y0 = x0) (e0' : y1 = x1) : k0_pay6 w1 w3 y0 y1 = step5 i v1 v3 x0 x1 d := by
  subst e1 e3 e0 e0'; exact (if_pos h).symm

theorem step5_neg (i : grid0.Coords) {v1 v3 w1 w3 : BitVec 32} {x0 x1 y0 y1 : Vec F S1x4096x512 .bf16} {d d' : Vec F S1x512x512 .f32}
    (h : ¬ cond0_1 i) (e1 : w1 = v1) (e3 : w3 = v3) (e0 : y0 = x0) (e0' : y1 = x1) (ed : d' = d) : k0_pay7 w1 w3 y0 y1 d' = step5 i v1 v3 x0 x1 d := by
  subst e1 e3 e0 e0' ed; exact (if_neg h).symm

theorem step6_of (i : grid0.Coords) {v1 v3 w1 w3 : BitVec 32} (h1 : k0_chk1 v1) (h1' : k0_chk1 w1) {x0 x1 y0 y1 : Vec F S1x4096x512 .bf16}
    {x3 y3 : Vec F S1x512x256 .i8} {x4 y4 : Vec F S1x1x256 .f32} {d B : Vec F S3072x256 .f32}
    (e1 : w1 = v1) (e3 : w3 = v3) (e0 : y0 = x0) (e0' : y1 = x1) (ex3 : y3 = x3) (ex4 : y4 = x4) (eB : B = base6 i d) :
    upd (Rect.unit (s := S3072x256) (k0_off2 w1) S512x256.size (k0_off2_inb w1 h1'))
      (k0_pay1 (k0_pay8 w1 w3 y0 y1) (k0_pay10 w1 w3 y0 y1) (k0_pay11 w1 w3 y0 y1) y3 y4
        (fun x => B ((Rect.unit (s := S3072x256) (k0_off2 w1) S512x256.size (k0_off2_inb w1 h1')).emb x))) B
      = step6 i v1 v3 h1 x0 x1 x3 x4 d := by
  subst e1 e3 e0 e0' ex3 ex4 eB; rfl

theorem step7_of (i : grid0.Coords) {v1 v3 w1 w3 : BitVec 32} (h2 : k0_chk2 v1 v3) (h2' : k0_chk2 w1 w3) (h : k0_cond4 w1 w3 = 1#1) {x0 x1 y0 y1 : Vec F S1x4096x512 .bf16}
    {x2 y2 : Vec F S1x512x256 .i8} {x4 y4 : Vec F S1x1x256 .f32} {d B : Vec F S256x3072 .f32}
    (e1 : w1 = v1) (e3 : w3 = v3) (e0 : y0 = x0) (e0' : y1 = x1) (ex2 : y2 = x2) (ex4 : y4 = x4) (eB : B = base7 i d) :
    upd (Rect.unit (s := S256x3072) (k0_off3 w3) S256x512.size (k0_off3_inb w1 w3 h2' h))
      (k0_pay2 (k0_pay8 w1 w3 y0 y1) (k0_pay10 w1 w3 y0 y1) (k0_pay11 w1 w3 y0 y1) y2 y4
        (fun x => B ((Rect.unit (s := S256x3072) (k0_off3 w3) S256x512.size (k0_off3_inb w1 w3 h2' h)).emb x))) B
      = step7 i v1 v3 h2 x0 x1 x2 x4 d := by
  subst e1 e3 e0 e0' ex2 ex4 eB; unfold step7; rw [dif_pos h]

theorem step7_neg (i : grid0.Coords) {v1 v3 w1 w3 : BitVec 32} (h2 : k0_chk2 v1 v3) (h : ¬ k0_cond4 w1 w3 = 1#1) (x0 x1 : Vec F S1x4096x512 .bf16)
    (x2 : Vec F S1x512x256 .i8) (x4 : Vec F S1x1x256 .f32) {d B : Vec F S256x3072 .f32}
    (e1 : w1 = v1) (e3 : w3 = v3) (eB : B = base7 i d) : B = step7 i v1 v3 h2 x0 x1 x2 x4 d := by
  subst e1 e3 eB; unfold step7; rw [dif_neg h]

theorem base6_pos (i : grid0.Coords) (d : Vec F S3072x256 .f32) (h : cond0_0 i) : k0_pay3 = base6 i d := (if_pos h).symm
theorem base6_neg (i : grid0.Coords) (d : Vec F S3072x256 .f32) (h : ¬ cond0_0 i) : d = base6 i d := (if_neg h).symm
theorem base7_pos (i : grid0.Coords) (d : Vec F S256x3072 .f32) (h : cond0_0 i) : k0_pay4 = base7 i d := (if_pos h).symm
theorem base7_neg (i : grid0.Coords) (d : Vec F S256x3072 .f32) (h : ¬ cond0_0 i) : d = base7 i d := (if_neg h).symm

/-- What a buffer reads after a store over the whole of it. -/
theorem read_writes_whole {κ : Kind} {sp : Space} {s : Shape} {e : EltTy} (v : View sig κ sp s e) (f : v.ty.Contents (Elt F))
    (off : Fin s.rank → ℕ) (inb : ∀ a, off a + s.size a ≤ s.size a) (w : s.Idx → Elt F e) (L : List (View.Piece (Elt F) s e)) :
    v.read (Elt F) (v.writes (Elt F) f (⟨Rect.unit (s := s) off s.size inb, w⟩ :: L)) = w :=
  (read_writes_cons_upd v f (Rect.unit (s := s) off s.size inb) w L).trans (upd_whole off inb w _)

set_option maxHeartbeats 4000000 in
/-- The body at a grid point: the inputs' staging buffers are left as they were, and the three outputs' at the steps above
    of what they held. -/
theorem run_body (c : Dev nD) (i : grid0.Coords) (arg4 : Memref sig .tc .vmem S1x4096x512 .bf16) (harg4 : arg4.IsWhole) (arg5 : Memref sig .tc .vmem S1x4096x512 .bf16) (harg5 : arg5.IsWhole) (arg6 : Memref sig .tc .vmem S1x512x256 .i8) (harg6 : arg6.IsWhole) (arg7 : Memref sig .tc .vmem S1x512x256 .i8) (harg7 : arg7.IsWhole) (arg8 : Memref sig .tc .vmem S1x1x256 .f32) (harg8 : arg8.IsWhole) (arg9 : Memref sig .tc .vmem S1x512x512 .f32) (harg9 : arg9.IsWhole) (arg10 : Memref sig .tc .vmem S3072x256 .f32) (harg10 : arg10.IsWhole) (arg11 : Memref sig .tc .vmem S256x3072 .f32) (harg11 : arg11.IsWhole) (h23 : cond0_2 i ↔ ¬ cond0_1 i)
    (x0 : Vec F S1x4096x512 .bf16) (x1 : Vec F S1x4096x512 .bf16) (x2 : Vec F S1x512x256 .i8) (x3 : Vec F S1x512x256 .i8) (x4 : Vec F S1x1x256 .f32) (d5 : Vec F S1x512x512 .f32) (d6 : Vec F S3072x256 .f32) (d7 : Vec F S256x3072 .f32) :
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare d5 ∗ owns (c : Thread nD τ) arg10 fullShare d6 ∗ owns (c : Thread nD τ) arg11 fullShare d7 ∗ tbPt0 c tbM0_0 (tbl m 0) ∗ tbPt0 c tbM0_1 (tbl m 1)
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare (step5 i (rowT i) (colT i) x0 x1 d5) ∗ owns (c : Thread nD τ) arg10 fullShare (step6 i (rowT i) (colT i) (chk1 i) x0 x1 x3 x4 d6) ∗ owns (c : Thread nD τ) arg11 fullShare (step7 i (rowT i) (colT i) (chk2 i) x0 x1 x2 x4 d7) ∗ tbPt0 c tbM0_0 (tbl m 0) ∗ tbPt0 c tbM0_1 (tbl m 1)) -∗ K ⟨⟩))
          ⊢ wp frame (wpE (defs₀ (F := F)) Variants.none c none) E (cc0_gram i tbM0_0 htbM0_0 tbM0_1 htbM0_1 arg4 harg4 arg5 harg5 arg6 harg6 arg7 harg7 arg8 harg8 arg9 harg9 arg10 harg10 arg11 harg11) K := by
    intro E K
    have hw1 := word_0 m i
    have hw2 := word_1 m i
    have k0_hw1 : k0_chk1 (tbM0_0.view.readAt (Elt F) (Rect.unit (s := S21) (k0_off1 i) S1.size (k0_off1_inb i)).toLoadRect (tbl m 0) (Shape.Idx.first (numel1_S1.symm ▸ Nat.one_pos))) := hw1 ▸ chk1 i
    have k0_hw2 : k0_chk2 (tbM0_0.view.readAt (Elt F) (Rect.unit (s := S21) (k0_off1 i) S1.size (k0_off1_inb i)).toLoadRect (tbl m 0) (Shape.Idx.first (numel1_S1.symm ▸ Nat.one_pos))) (tbM0_1.view.readAt (Elt F) (Rect.unit (s := S21) (k0_off1 i) S1.size (k0_off1_inb i)).toLoadRect (tbl m 1) (Shape.Idx.first (numel1_S1.symm ▸ Nat.one_pos))) := by rw [hw1, hw2]; exact chk2 i
    simp only [cc0_gram_eq_skeleton]; unfold cc0_gram_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, HT0, HT1, Hk⟩
    obtain rfl := harg4.eq_unread hf0; obtain rfl := harg5.eq_unread hf1; obtain rfl := harg6.eq_unread hf2; obtain rfl := harg7.eq_unread hf3; obtain rfl := harg8.eq_unread hf4
    have e5 : ∀ (off : Fin 3 → ℕ) (inb : ∀ k, off k + S1x512x512.size k ≤ S1x512x512.size k), arg9.view.readAt (Elt F) (Rect.unit (s := S1x512x512) off S1x512x512.size inb).toLoadRect f5 = d5 := by
      intro off inb
      refine Eq.trans (b := fun y => arg9.view.read (Elt F) f5 ((Rect.unit (s := S1x512x512) off S1x512x512.size inb).emb y)) rfl ?_
      rw [hf5]
      funext y
      exact congrArg d5 (unit_emb_whole off inb y)
    by_cases hc0 : cond0_0 i
    · by_cases hc1 : cond0_1 i
      · by_cases hc3 : k0_cond4 (tbM0_0.view.readAt (Elt F) (Rect.unit (s := S21) (k0_off1 i) S1.size (k0_off1_inb i)).toLoadRect (tbl m 0) (Shape.Idx.first (numel1_S1.symm ▸ Nat.one_pos))) (tbM0_1.view.readAt (Elt F) (Rect.unit (s := S21) (k0_off1 i) S1.size (k0_off1_inb i)).toLoadRect (tbl m 1) (Shape.Idx.first (numel1_S1.symm ▸ Nat.one_pos))) = 1#1
        · have hc2 : ¬ cond0_2 i := fun h => h23.mp h hc1
          sl_exec (disch := first | sl_exact hc0 | sl_exact hc1 | sl_exact hc2 | sl_exact k0_hw1 | sl_exact k0_hw2 | sl_exact hc3)
          sl_step
          iapply Hk
          isplitl [H0]
          · iexists _; isplitr; · ipureintro; exact harg4.read_unread _
            iexact H0
          isplitl [H1]
          · iexists _; isplitr; · ipureintro; exact harg5.read_unread _
            iexact H1
          isplitl [H2]
          · iexists _; isplitr; · ipureintro; exact harg6.read_unread _
            iexact H2
          isplitl [H3]
          · iexists _; isplitr; · ipureintro; exact harg7.read_unread _
            iexact H3
          isplitl [H4]
          · iexists _; isplitr; · ipureintro; exact harg8.read_unread _
            iexact H4
          isplitl [H5]
          · iexists _; isplitr; swap; · iexact H5
            ipureintro; exact (read_writes_whole _ _ _ _ _ _).trans (step5_pos i d5 hc1 hw1 hw2 (readAt_whole arg4 harg4 x0 _ _) (readAt_whole arg5 harg5 x1 _ _))
          isplitl [H6]
          · iexists _; isplitr; swap; · iexact H6
            ipureintro; exact (read_writes_cons_upd _ _ _ _ _).trans (step6_of i (chk1 i) k0_hw1 hw1 hw2 (readAt_whole arg4 harg4 x0 _ _) (readAt_whole arg5 harg5 x1 _ _) (readAt_whole arg7 harg7 x3 _ _) (readAt_whole arg8 harg8 x4 _ _) ((read_writes_whole _ _ _ _ _ _).trans (base6_pos i d6 hc0)))
          isplitl [H7]
          · iexists _; isplitr; swap; · iexact H7
            ipureintro; exact (read_writes_cons_upd _ _ _ _ _).trans (step7_of i (chk2 i) k0_hw2 hc3 hw1 hw2 (readAt_whole arg4 harg4 x0 _ _) (readAt_whole arg5 harg5 x1 _ _) (readAt_whole arg6 harg6 x2 _ _) (readAt_whole arg8 harg8 x4 _ _) ((read_writes_whole _ _ _ _ _ _).trans (base7_pos i d7 hc0)))
          isplitl [HT0]; · iexact HT0
          iexact HT1
        · have hc2 : ¬ cond0_2 i := fun h => h23.mp h hc1
          sl_exec (disch := first | sl_exact hc0 | sl_exact hc1 | sl_exact hc2 | sl_exact k0_hw1 | sl_exact k0_hw2 | sl_exact hc3)
          sl_step
          iapply Hk
          isplitl [H0]
          · iexists _; isplitr; · ipureintro; exact harg4.read_unread _
            iexact H0
          isplitl [H1]
          · iexists _; isplitr; · ipureintro; exact harg5.read_unread _
            iexact H1
          isplitl [H2]
          · iexists _; isplitr; · ipureintro; exact harg6.read_unread _
            iexact H2
          isplitl [H3]
          · iexists _; isplitr; · ipureintro; exact harg7.read_unread _
            iexact H3
          isplitl [H4]
          · iexists _; isplitr; · ipureintro; exact harg8.read_unread _
            iexact H4
          isplitl [H5]
          · iexists _; isplitr; swap; · iexact H5
            ipureintro; exact (read_writes_whole _ _ _ _ _ _).trans (step5_pos i d5 hc1 hw1 hw2 (readAt_whole arg4 harg4 x0 _ _) (readAt_whole arg5 harg5 x1 _ _))
          isplitl [H6]
          · iexists _; isplitr; swap; · iexact H6
            ipureintro; exact (read_writes_cons_upd _ _ _ _ _).trans (step6_of i (chk1 i) k0_hw1 hw1 hw2 (readAt_whole arg4 harg4 x0 _ _) (readAt_whole arg5 harg5 x1 _ _) (readAt_whole arg7 harg7 x3 _ _) (readAt_whole arg8 harg8 x4 _ _) ((read_writes_whole _ _ _ _ _ _).trans (base6_pos i d6 hc0)))
          isplitl [H7]
          · iexists _; isplitr; swap; · iexact H7
            ipureintro; exact step7_neg i (chk2 i) hc3 x0 x1 x2 x4 hw1 hw2 ((read_writes_whole _ _ _ _ _ _).trans (base7_pos i d7 hc0))
          isplitl [HT0]; · iexact HT0
          iexact HT1
      · by_cases hc3 : k0_cond4 (tbM0_0.view.readAt (Elt F) (Rect.unit (s := S21) (k0_off1 i) S1.size (k0_off1_inb i)).toLoadRect (tbl m 0) (Shape.Idx.first (numel1_S1.symm ▸ Nat.one_pos))) (tbM0_1.view.readAt (Elt F) (Rect.unit (s := S21) (k0_off1 i) S1.size (k0_off1_inb i)).toLoadRect (tbl m 1) (Shape.Idx.first (numel1_S1.symm ▸ Nat.one_pos))) = 1#1
        · have hc2 : cond0_2 i := h23.mpr hc1
          sl_exec (disch := first | sl_exact hc0 | sl_exact hc1 | sl_exact hc2 | sl_exact k0_hw1 | sl_exact k0_hw2 | sl_exact hc3)
          sl_step
          iapply Hk
          isplitl [H0]
          · iexists _; isplitr; · ipureintro; exact harg4.read_unread _
            iexact H0
          isplitl [H1]
          · iexists _; isplitr; · ipureintro; exact harg5.read_unread _
            iexact H1
          isplitl [H2]
          · iexists _; isplitr; · ipureintro; exact harg6.read_unread _
            iexact H2
          isplitl [H3]
          · iexists _; isplitr; · ipureintro; exact harg7.read_unread _
            iexact H3
          isplitl [H4]
          · iexists _; isplitr; · ipureintro; exact harg8.read_unread _
            iexact H4
          isplitl [H5]
          · iexists _; isplitr; swap; · iexact H5
            ipureintro; refine (read_writes_whole _ _ _ _ _ _).trans (step5_neg (d := d5) (d' := d5) i hc1 hw1 hw2 (readAt_whole arg4 harg4 x0 _ _) (readAt_whole arg5 harg5 x1 _ _) rfl)
          isplitl [H6]
          · iexists _; isplitr; swap; · iexact H6
            ipureintro; exact (read_writes_cons_upd _ _ _ _ _).trans (step6_of i (chk1 i) k0_hw1 hw1 hw2 (readAt_whole arg4 harg4 x0 _ _) (readAt_whole arg5 harg5 x1 _ _) (readAt_whole arg7 harg7 x3 _ _) (readAt_whole arg8 harg8 x4 _ _) ((read_writes_whole _ _ _ _ _ _).trans (base6_pos i d6 hc0)))
          isplitl [H7]
          · iexists _; isplitr; swap; · iexact H7
            ipureintro; exact (read_writes_cons_upd _ _ _ _ _).trans (step7_of i (chk2 i) k0_hw2 hc3 hw1 hw2 (readAt_whole arg4 harg4 x0 _ _) (readAt_whole arg5 harg5 x1 _ _) (readAt_whole arg6 harg6 x2 _ _) (readAt_whole arg8 harg8 x4 _ _) ((read_writes_whole _ _ _ _ _ _).trans (base7_pos i d7 hc0)))
          isplitl [HT0]; · iexact HT0
          iexact HT1
        · have hc2 : cond0_2 i := h23.mpr hc1
          sl_exec (disch := first | sl_exact hc0 | sl_exact hc1 | sl_exact hc2 | sl_exact k0_hw1 | sl_exact k0_hw2 | sl_exact hc3)
          sl_step
          iapply Hk
          isplitl [H0]
          · iexists _; isplitr; · ipureintro; exact harg4.read_unread _
            iexact H0
          isplitl [H1]
          · iexists _; isplitr; · ipureintro; exact harg5.read_unread _
            iexact H1
          isplitl [H2]
          · iexists _; isplitr; · ipureintro; exact harg6.read_unread _
            iexact H2
          isplitl [H3]
          · iexists _; isplitr; · ipureintro; exact harg7.read_unread _
            iexact H3
          isplitl [H4]
          · iexists _; isplitr; · ipureintro; exact harg8.read_unread _
            iexact H4
          isplitl [H5]
          · iexists _; isplitr; swap; · iexact H5
            ipureintro; refine (read_writes_whole _ _ _ _ _ _).trans (step5_neg (d := d5) (d' := d5) i hc1 hw1 hw2 (readAt_whole arg4 harg4 x0 _ _) (readAt_whole arg5 harg5 x1 _ _) rfl)
          isplitl [H6]
          · iexists _; isplitr; swap; · iexact H6
            ipureintro; exact (read_writes_cons_upd _ _ _ _ _).trans (step6_of i (chk1 i) k0_hw1 hw1 hw2 (readAt_whole arg4 harg4 x0 _ _) (readAt_whole arg5 harg5 x1 _ _) (readAt_whole arg7 harg7 x3 _ _) (readAt_whole arg8 harg8 x4 _ _) ((read_writes_whole _ _ _ _ _ _).trans (base6_pos i d6 hc0)))
          isplitl [H7]
          · iexists _; isplitr; swap; · iexact H7
            ipureintro; exact step7_neg i (chk2 i) hc3 x0 x1 x2 x4 hw1 hw2 ((read_writes_whole _ _ _ _ _ _).trans (base7_pos i d7 hc0))
          isplitl [HT0]; · iexact HT0
          iexact HT1
    · by_cases hc1 : cond0_1 i
      · by_cases hc3 : k0_cond4 (tbM0_0.view.readAt (Elt F) (Rect.unit (s := S21) (k0_off1 i) S1.size (k0_off1_inb i)).toLoadRect (tbl m 0) (Shape.Idx.first (numel1_S1.symm ▸ Nat.one_pos))) (tbM0_1.view.readAt (Elt F) (Rect.unit (s := S21) (k0_off1 i) S1.size (k0_off1_inb i)).toLoadRect (tbl m 1) (Shape.Idx.first (numel1_S1.symm ▸ Nat.one_pos))) = 1#1
        · have hc2 : ¬ cond0_2 i := fun h => h23.mp h hc1
          sl_exec (disch := first | sl_exact hc0 | sl_exact hc1 | sl_exact hc2 | sl_exact k0_hw1 | sl_exact k0_hw2 | sl_exact hc3)
          sl_step
          iapply Hk
          isplitl [H0]
          · iexists _; isplitr; · ipureintro; exact harg4.read_unread _
            iexact H0
          isplitl [H1]
          · iexists _; isplitr; · ipureintro; exact harg5.read_unread _
            iexact H1
          isplitl [H2]
          · iexists _; isplitr; · ipureintro; exact harg6.read_unread _
            iexact H2
          isplitl [H3]
          · iexists _; isplitr; · ipureintro; exact harg7.read_unread _
            iexact H3
          isplitl [H4]
          · iexists _; isplitr; · ipureintro; exact harg8.read_unread _
            iexact H4
          isplitl [H5]
          · iexists _; isplitr; swap; · iexact H5
            ipureintro; exact (read_writes_whole _ _ _ _ _ _).trans (step5_pos i d5 hc1 hw1 hw2 (readAt_whole arg4 harg4 x0 _ _) (readAt_whole arg5 harg5 x1 _ _))
          isplitl [H6]
          · iexists _; isplitr; swap; · iexact H6
            ipureintro; exact (read_writes_cons_upd _ _ _ _ _).trans (step6_of i (chk1 i) k0_hw1 hw1 hw2 (readAt_whole arg4 harg4 x0 _ _) (readAt_whole arg5 harg5 x1 _ _) (readAt_whole arg7 harg7 x3 _ _) (readAt_whole arg8 harg8 x4 _ _) (hf6.trans (base6_neg i d6 hc0)))
          isplitl [H7]
          · iexists _; isplitr; swap; · iexact H7
            ipureintro; exact (read_writes_cons_upd _ _ _ _ _).trans (step7_of i (chk2 i) k0_hw2 hc3 hw1 hw2 (readAt_whole arg4 harg4 x0 _ _) (readAt_whole arg5 harg5 x1 _ _) (readAt_whole arg6 harg6 x2 _ _) (readAt_whole arg8 harg8 x4 _ _) (hf7.trans (base7_neg i d7 hc0)))
          isplitl [HT0]; · iexact HT0
          iexact HT1
        · have hc2 : ¬ cond0_2 i := fun h => h23.mp h hc1
          sl_exec (disch := first | sl_exact hc0 | sl_exact hc1 | sl_exact hc2 | sl_exact k0_hw1 | sl_exact k0_hw2 | sl_exact hc3)
          sl_step
          iapply Hk
          isplitl [H0]
          · iexists _; isplitr; · ipureintro; exact harg4.read_unread _
            iexact H0
          isplitl [H1]
          · iexists _; isplitr; · ipureintro; exact harg5.read_unread _
            iexact H1
          isplitl [H2]
          · iexists _; isplitr; · ipureintro; exact harg6.read_unread _
            iexact H2
          isplitl [H3]
          · iexists _; isplitr; · ipureintro; exact harg7.read_unread _
            iexact H3
          isplitl [H4]
          · iexists _; isplitr; · ipureintro; exact harg8.read_unread _
            iexact H4
          isplitl [H5]
          · iexists _; isplitr; swap; · iexact H5
            ipureintro; exact (read_writes_whole _ _ _ _ _ _).trans (step5_pos i d5 hc1 hw1 hw2 (readAt_whole arg4 harg4 x0 _ _) (readAt_whole arg5 harg5 x1 _ _))
          isplitl [H6]
          · iexists _; isplitr; swap; · iexact H6
            ipureintro; exact (read_writes_cons_upd _ _ _ _ _).trans (step6_of i (chk1 i) k0_hw1 hw1 hw2 (readAt_whole arg4 harg4 x0 _ _) (readAt_whole arg5 harg5 x1 _ _) (readAt_whole arg7 harg7 x3 _ _) (readAt_whole arg8 harg8 x4 _ _) (hf6.trans (base6_neg i d6 hc0)))
          isplitl [H7]
          · iexists _; isplitr; swap; · iexact H7
            ipureintro; exact step7_neg i (chk2 i) hc3 x0 x1 x2 x4 hw1 hw2 (hf7.trans (base7_neg i d7 hc0))
          isplitl [HT0]; · iexact HT0
          iexact HT1
      · by_cases hc3 : k0_cond4 (tbM0_0.view.readAt (Elt F) (Rect.unit (s := S21) (k0_off1 i) S1.size (k0_off1_inb i)).toLoadRect (tbl m 0) (Shape.Idx.first (numel1_S1.symm ▸ Nat.one_pos))) (tbM0_1.view.readAt (Elt F) (Rect.unit (s := S21) (k0_off1 i) S1.size (k0_off1_inb i)).toLoadRect (tbl m 1) (Shape.Idx.first (numel1_S1.symm ▸ Nat.one_pos))) = 1#1
        · have hc2 : cond0_2 i := h23.mpr hc1
          sl_exec (disch := first | sl_exact hc0 | sl_exact hc1 | sl_exact hc2 | sl_exact k0_hw1 | sl_exact k0_hw2 | sl_exact hc3)
          sl_step
          iapply Hk
          isplitl [H0]
          · iexists _; isplitr; · ipureintro; exact harg4.read_unread _
            iexact H0
          isplitl [H1]
          · iexists _; isplitr; · ipureintro; exact harg5.read_unread _
            iexact H1
          isplitl [H2]
          · iexists _; isplitr; · ipureintro; exact harg6.read_unread _
            iexact H2
          isplitl [H3]
          · iexists _; isplitr; · ipureintro; exact harg7.read_unread _
            iexact H3
          isplitl [H4]
          · iexists _; isplitr; · ipureintro; exact harg8.read_unread _
            iexact H4
          isplitl [H5]
          · iexists _; isplitr; swap; · iexact H5
            ipureintro; refine (read_writes_whole _ _ _ _ _ _).trans (step5_neg (d := d5) (d' := d5) i hc1 hw1 hw2 (readAt_whole arg4 harg4 x0 _ _) (readAt_whole arg5 harg5 x1 _ _) rfl)
          isplitl [H6]
          · iexists _; isplitr; swap; · iexact H6
            ipureintro; exact (read_writes_cons_upd _ _ _ _ _).trans (step6_of i (chk1 i) k0_hw1 hw1 hw2 (readAt_whole arg4 harg4 x0 _ _) (readAt_whole arg5 harg5 x1 _ _) (readAt_whole arg7 harg7 x3 _ _) (readAt_whole arg8 harg8 x4 _ _) (hf6.trans (base6_neg i d6 hc0)))
          isplitl [H7]
          · iexists _; isplitr; swap; · iexact H7
            ipureintro; exact (read_writes_cons_upd _ _ _ _ _).trans (step7_of i (chk2 i) k0_hw2 hc3 hw1 hw2 (readAt_whole arg4 harg4 x0 _ _) (readAt_whole arg5 harg5 x1 _ _) (readAt_whole arg6 harg6 x2 _ _) (readAt_whole arg8 harg8 x4 _ _) (hf7.trans (base7_neg i d7 hc0)))
          isplitl [HT0]; · iexact HT0
          iexact HT1
        · have hc2 : cond0_2 i := h23.mpr hc1
          sl_exec (disch := first | sl_exact hc0 | sl_exact hc1 | sl_exact hc2 | sl_exact k0_hw1 | sl_exact k0_hw2 | sl_exact hc3)
          sl_step
          iapply Hk
          isplitl [H0]
          · iexists _; isplitr; · ipureintro; exact harg4.read_unread _
            iexact H0
          isplitl [H1]
          · iexists _; isplitr; · ipureintro; exact harg5.read_unread _
            iexact H1
          isplitl [H2]
          · iexists _; isplitr; · ipureintro; exact harg6.read_unread _
            iexact H2
          isplitl [H3]
          · iexists _; isplitr; · ipureintro; exact harg7.read_unread _
            iexact H3
          isplitl [H4]
          · iexists _; isplitr; · ipureintro; exact harg8.read_unread _
            iexact H4
          isplitl [H5]
          · iexists _; isplitr; swap; · iexact H5
            ipureintro; refine (read_writes_whole _ _ _ _ _ _).trans (step5_neg (d := d5) (d' := d5) i hc1 hw1 hw2 (readAt_whole arg4 harg4 x0 _ _) (readAt_whole arg5 harg5 x1 _ _) rfl)
          isplitl [H6]
          · iexists _; isplitr; swap; · iexact H6
            ipureintro; exact (read_writes_cons_upd _ _ _ _ _).trans (step6_of i (chk1 i) k0_hw1 hw1 hw2 (readAt_whole arg4 harg4 x0 _ _) (readAt_whole arg5 harg5 x1 _ _) (readAt_whole arg7 harg7 x3 _ _) (readAt_whole arg8 harg8 x4 _ _) (hf6.trans (base6_neg i d6 hc0)))
          isplitl [H7]
          · iexists _; isplitr; swap; · iexact H7
            ipureintro; exact step7_neg i (chk2 i) hc3 x0 x1 x2 x4 hw1 hw2 (hf7.trans (base7_neg i d7 hc0))
          isplitl [HT0]; · iexact HT0
          iexact HT1

end Cert.Kernel.Gen

end
-- ==== Proof.Kernel.Frame.lean ====
/- The whole launch: what the output arrays hold after the last grid point, and that the arguments are unchanged and every counter ends at zero. -/
module

public import proofs.«01_k».proof.Proof.Kernel.Body
public import Idealize.ShloMosaic.Lib.Claim

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the outputs' buffers hold point by point -/

/-- The grid point of number `n` (the 84 points in the order the launch runs them). -/
def pt (hO : Ok m) (n : ℕ) : Fin (cfgM m hO).N := ⟨n % 84, lt_of_lt_of_eq (Nat.mod_lt _ (by omega)) (show 84 = (cfgM m hO).N from N_0.symm)⟩

theorem pt_val (hO : Ok m) (t : Fin (cfgM m hO).N) : pt m hO t.val = t :=
  Fin.ext (Nat.mod_eq_of_lt (lt_of_lt_of_eq t.isLt (show (cfgM m hO).N = 84 from N_0)))

/-- The step of each output at point `t`, from the blocks the point stages. -/
def at5 (hO : Ok m) (c : Dev nD) (t : Fin (cfgM m hO).N) (d : Vec F S1x512x512 .f32) : Vec F S1x512x512 .f32 :=
  step5 (grid0.coords t) (rowT (grid0.coords t)) (colT (grid0.coords t)) (iblk m hO c 0 t) (iblk m hO c 1 t) d
def at6 (hO : Ok m) (c : Dev nD) (t : Fin (cfgM m hO).N) (d : Vec F S3072x256 .f32) : Vec F S3072x256 .f32 :=
  step6 (grid0.coords t) (rowT (grid0.coords t)) (colT (grid0.coords t)) (chk1 (grid0.coords t)) (iblk m hO c 0 t) (iblk m hO c 1 t) (iblk m hO c 3 t) (iblk m hO c 4 t) d
def at7 (hO : Ok m) (c : Dev nD) (t : Fin (cfgM m hO).N) (d : Vec F S256x3072 .f32) : Vec F S256x3072 .f32 :=
  step7 (grid0.coords t) (rowT (grid0.coords t)) (colT (grid0.coords t)) (chk2 (grid0.coords t)) (iblk m hO c 0 t) (iblk m hO c 1 t) (iblk m hO c 2 t) (iblk m hO c 4 t) d

/-- What the buffer of the merged matrix' tile holds after point `n`. -/
def acc5 (hO : Ok m) (c : Dev nD) : ℕ → Vec F S1x512x512 .f32
  | 0 => at5 m hO c (pt m hO 0) (fun _ => Scalar.ofBits .f32 0x00000000#32)
  | n + 1 => at5 m hO c (pt m hO (n + 1)) (acc5 hO c n)
/-- What the buffer of the right-hand side accumulator holds after point `n`. -/
def acc6 (hO : Ok m) (c : Dev nD) : ℕ → Vec F S3072x256 .f32
  | 0 => at6 m hO c (pt m hO 0) k0_pay3
  | n + 1 => at6 m hO c (pt m hO (n + 1)) (acc6 hO c n)
/-- What the buffer of the transposed accumulator holds after point `n`. -/
def acc7 (hO : Ok m) (c : Dev nD) : ℕ → Vec F S256x3072 .f32
  | 0 => at7 m hO c (pt m hO 0) k0_pay4
  | n + 1 => at7 m hO c (pt m hO (n + 1)) (acc7 hO c n)

theorem at5_first (hO : Ok m) (c : Dev nD) (t : Fin (cfgM m hO).N) (h : t.val % 4 = 0) (d d' : Vec F S1x512x512 .f32) : at5 m hO c t d = at5 m hO c t d' := by
  unfold at5 step5; rw [if_pos ((hcond0_1 t).mpr h), if_pos ((hcond0_1 t).mpr h)]
theorem at6_first (hO : Ok m) (c : Dev nD) (t : Fin (cfgM m hO).N) (h : t.val % 84 = 0) (d d' : Vec F S3072x256 .f32) : at6 m hO c t d = at6 m hO c t d' := by
  unfold at6 step6 base6; rw [if_pos ((hcond0_0 t).mpr h), if_pos ((hcond0_0 t).mpr h)]
theorem at7_first (hO : Ok m) (c : Dev nD) (t : Fin (cfgM m hO).N) (h : t.val % 84 = 0) (d d' : Vec F S256x3072 .f32) : at7 m hO c t d = at7 m hO c t d' := by
  unfold at7 step7 base7; rw [if_pos ((hcond0_0 t).mpr h), if_pos ((hcond0_0 t).mpr h)]
theorem at7_idle (hO : Ok m) (c : Dev nD) (t : Fin (cfgM m hO).N) (h : ¬ t.val % 84 = 0) (h3 : ¬ cond0_3 (grid0.coords t)) (d : Vec F S256x3072 .f32) : at7 m hO c t d = d := by
  unfold at7 step7 base7; rw [dif_neg h3, if_neg (fun h' => h ((hcond0_0 t).mp h'))]

/-! ## The pipeline's proof data -/

/-- The proof data of the one pipeline on core `c`: the arrays as the region finds them (`V`); after the body at
    point `t` each input's buffer at its block and the outputs at their accumulators; the invariant the class's
    (Lib/Pipeline/Frame.lean `ΦA`: the scoped rest and the generator register) and the tables' halves (`ΦT`); nothing owed;
    each input's share of its array
    (`Pipeline.shareOf`: the full share of an array several windows stage, dealt among them). -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => acc5 m hO c t.val
    | ⟨6, _⟩ => acc6 m hO c t.val
    | ⟨7, _⟩ => acc7 m hO c t.val
  Φ _ := iprop(Pipeline.ΦA spec0 c ∗ Pipeline.ΦT pre0 (tbl m) c)
  q w := Pipeline.shareOf spec0 w
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = acc5 m hO c t.val := by dsimp only [dats]; try rfl
theorem after0_6 (hO : Ok m) (c : Dev nD) (t : Fin (cfgM m hO).N) : (dats m hO 0 c).after 6 t = acc6 m hO c t.val := by dsimp only [dats]; try rfl
theorem after0_7 (hO : Ok m) (c : Dev nD) (t : Fin (cfgM m hO).N) : (dats m hO 0 c).after 7 t = acc7 m hO c t.val := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d

/-! ## What the outputs' buffers hold when a point begins -/

theorem idle_5 (hO : Ok m) (t : Fin (cfgM m hO).N) : (cfgM m hO).idle 5 ((cfgM m hO).grid.coords t) = false := by
  have h := hcond0_1 t
  have h' := hcond0_2 t
  show (!(k0_cond2 (grid0.coords t) == 1#1) && !(k0_cond3 (grid0.coords t) == 1#1)) = false
  by_cases h4 : t.val % 4 = 0
  · rw [show k0_cond2 (grid0.coords t) = 1#1 from h.mpr h4]; rfl
  · rw [show k0_cond3 (grid0.coords t) = 1#1 from h'.mpr (by omega)]; rw [Bool.and_eq_false_iff]; right; rfl
theorem idle_6 (hO : Ok m) (t : Fin (cfgM m hO).N) : (cfgM m hO).idle 6 ((cfgM m hO).grid.coords t) = false := rfl
theorem idle_7 (hO : Ok m) (t : Fin (cfgM m hO).N) : (cfgM m hO).idle 7 ((cfgM m hO).grid.coords t) = (!(k0_cond1 (grid0.coords t) == 1#1) && !(k0_cond4 (rowT (grid0.coords t)) (colT (grid0.coords t)) == 1#1)) := by
  have h : (cfgM m hO).idle 7 ((cfgM m hO).grid.coords t) = (!(k0_cond1 (grid0.coords t) == 1#1) && !(k0_cond4 ((tbl m).atD 0 (k0_off1 (grid0.coords t))) ((tbl m).atD 1 (k0_off1 (grid0.coords t))) == 1#1)) := rfl
  rw [h, atD_0, atD_1]
theorem idle_7_iff (hO : Ok m) (t : Fin (cfgM m hO).N) : (cfgM m hO).idle 7 ((cfgM m hO).grid.coords t) = true ↔ ¬ t.val % 84 = 0 ∧ ¬ cond0_3 (grid0.coords t) := by
  rw [idle_7]
  have h0 := hcond0_0 t
  simp only [Bool.and_eq_true, Bool.not_eq_true', beq_eq_false_iff_ne, ne_eq]
  exact and_congr (not_congr h0) Iff.rfl

theorem before0_5 (hO : Ok m) (c : Dev nD) (t : Fin (cfgM m hO).N) (h : ¬ t.val % 4 = 0) (d) : (dats m hO 0 c).before 5 t d = acc5 m hO c (t.val - 1) := by
  have h0 : t.val ≠ 0 := by omega
  rw [Dat.before_of_pos _ 5 t h0 rfl d]
  rw [if_neg (fun hf => by have := (flush0_5 (adm m hO) _).mp hf; simp only at this; omega)]
  unfold Dat.left
  rw [idle_5]
  exact after0_5 m hO c _
theorem before0_6 (hO : Ok m) (c : Dev nD) (t : Fin (cfgM m hO).N) (h : ¬ t.val % 84 = 0) (d) : (dats m hO 0 c).before 6 t d = acc6 m hO c (t.val - 1) := by
  have h0 : t.val ≠ 0 := by omega
  have hN : t.val < 84 := lt_of_lt_of_eq t.isLt (show (cfgM m hO).N = 84 from N_0)
  rw [Dat.before_of_pos _ 6 t h0 rfl d]
  rw [if_neg (fun hf => by have := (flush0_6 (adm m hO) _).mp hf; simp only at this; omega)]
  unfold Dat.left
  rw [idle_6]
  exact after0_6 m hO c _

theorem acc7_succ (hO : Ok m) (c : Dev nD) (t : Fin (cfgM m hO).N) (h : ¬ t.val = 0) : acc7 m hO c t.val = at7 m hO c t (acc7 m hO c (t.val - 1)) := by
  obtain ⟨n, hn⟩ : ∃ n, t.val = n + 1 := ⟨t.val - 1, by omega⟩
  have := pt_val m hO t
  rw [hn] at this ⊢
  show at7 m hO c (pt m hO (n + 1)) _ = _
  rw [this]; rfl
theorem acc6_succ (hO : Ok m) (c : Dev nD) (t : Fin (cfgM m hO).N) (h : ¬ t.val = 0) : acc6 m hO c t.val = at6 m hO c t (acc6 m hO c (t.val - 1)) := by
  obtain ⟨n, hn⟩ : ∃ n, t.val = n + 1 := ⟨t.val - 1, by omega⟩
  have := pt_val m hO t
  rw [hn] at this ⊢
  show at6 m hO c (pt m hO (n + 1)) _ = _
  rw [this]; rfl
theorem acc5_succ (hO : Ok m) (c : Dev nD) (t : Fin (cfgM m hO).N) (h : ¬ t.val = 0) : acc5 m hO c t.val = at5 m hO c t (acc5 m hO c (t.val - 1)) := by
  obtain ⟨n, hn⟩ : ∃ n, t.val = n + 1 := ⟨t.val - 1, by omega⟩
  have := pt_val m hO t
  rw [hn] at this ⊢
  show at5 m hO c (pt m hO (n + 1)) _ = _
  rw [this]; rfl

theorem before0_7_aux (hO : Ok m) (c : Dev nD) (d) : ∀ n : ℕ, ∀ t : Fin (cfgM m hO).N, t.val = n + 1 → (dats m hO 0 c).before 7 t d = acc7 m hO c n := by
  intro n
  induction n with
  | zero =>
    intro t ht
    rw [Dat.before_of_pos _ 7 t (by omega) rfl d]
    rw [if_neg (fun hf => by have := (flush0_7 (adm m hO) _).mp hf; simp only at this; omega)]
    unfold Dat.left
    rw [show (cfgM m hO).idle 7 ((cfgM m hO).grid.coords ⟨t.val - 1, Nat.lt_of_le_of_lt (Nat.sub_le _ _) t.isLt⟩) = false from by
      rw [Bool.eq_false_iff]; intro hi
      exact ((idle_7_iff m hO _).mp hi).1 (by simp only; omega)]
    refine (after0_7 m hO c _).trans ?_
    show acc7 m hO c (t.val - 1) = _
    rw [ht]
  | succ n ih =>
    intro t ht
    have hN : t.val < 84 := lt_of_lt_of_eq t.isLt (show (cfgM m hO).N = 84 from N_0)
    rw [Dat.before_of_pos _ 7 t (by omega) rfl d]
    rw [if_neg (fun hf => by have := (flush0_7 (adm m hO) _).mp hf; simp only at this; omega)]
    unfold Dat.left
    have e : t.val - 1 = n + 1 := by omega
    cases hi : (cfgM m hO).idle 7 ((cfgM m hO).grid.coords ⟨t.val - 1, Nat.lt_of_le_of_lt (Nat.sub_le _ _) t.isLt⟩)
    · refine (after0_7 m hO c _).trans ?_
      show acc7 m hO c (t.val - 1) = _
      rw [e]
    · have hi' := (idle_7_iff m hO _).mp hi
      refine (ih ⟨t.val - 1, _⟩ e).trans ?_
      have := acc7_succ m hO c ⟨t.val - 1, Nat.lt_of_le_of_lt (Nat.sub_le _ _) t.isLt⟩ (by simp only; omega)
      rw [at7_idle m hO c _ hi'.1 hi'.2] at this
      simp only [e] at this
      exact this.symm
theorem before0_7 (hO : Ok m) (c : Dev nD) (t : Fin (cfgM m hO).N) (h : ¬ t.val % 84 = 0) (d) : (dats m hO 0 c).before 7 t d = acc7 m hO c (t.val - 1) :=
  before0_7_aux m hO c d (t.val - 1) t (by omega)

/-- A point's step from what the buffer holds when the point begins is the accumulator after the point. -/
theorem step_before5 (hO : Ok m) (c : Dev nD) (t : Fin (cfgM m hO).N) (d) : at5 m hO c t ((dats m hO 0 c).before 5 t d) = acc5 m hO c t.val := by
  by_cases h : t.val % 4 = 0
  · by_cases h0 : t.val = 0
    · have := pt_val m hO t
      rw [h0] at this ⊢
      refine Eq.trans ?_ (congrArg (fun t => at5 m hO c t _) this.symm)
      exact at5_first m hO c t h _ _
    · rw [acc5_succ m hO c t h0]; exact at5_first m hO c t h _ _
  · rw [before0_5 m hO c t h, acc5_succ m hO c t (by omega)]
theorem step_before6 (hO : Ok m) (c : Dev nD) (t : Fin (cfgM m hO).N) (d) : at6 m hO c t ((dats m hO 0 c).before 6 t d) = acc6 m hO c t.val := by
  have hN : t.val < 84 := lt_of_lt_of_eq t.isLt (show (cfgM m hO).N = 84 from N_0)
  by_cases h : t.val % 84 = 0
  · have h0 : t.val = 0 := by omega
    have := pt_val m hO t
    rw [h0] at this ⊢
    refine Eq.trans ?_ (congrArg (fun t => at6 m hO c t _) this.symm)
    exact at6_first m hO c t h _ _
  · rw [before0_6 m hO c t h, acc6_succ m hO c t (by omega)]
theorem step_before7 (hO : Ok m) (c : Dev nD) (t : Fin (cfgM m hO).N) (d) : at7 m hO c t ((dats m hO 0 c).before 7 t d) = acc7 m hO c t.val := by
  have hN : t.val < 84 := lt_of_lt_of_eq t.isLt (show (cfgM m hO).N = 84 from N_0)
  by_cases h : t.val % 84 = 0
  · have h0 : t.val = 0 := by omega
    have := pt_val m hO t
    rw [h0] at this ⊢
    refine Eq.trans ?_ (congrArg (fun t => at7 m hO c t _) this.symm)
    exact at7_first m hO c t h _ _
  · rw [before0_7 m hO c t h, acc7_succ m hO c t (by omega)]

/-! ## The body obligation, at a generic point -/

/-- What the body is called with at point `t`, the windows one by one, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d)))

/-- and what it returns. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t
    ∗ (dats m hO 0 c).leavesExact 6 t
    ∗ (dats m hO 0 c).leavesExact 7 t)

/-- What the transposed accumulator's buffer is left at: where the point leaves it alone, what it held. -/
theorem leaves7 (hO : Ok m) (c : Dev nD) (t : Fin (cfgM m hO).N) (d) :
    owns (c : Thread nD τ) (ms0_7 m hO t) fullShare (at7 m hO c t ((dats m hO 0 c).before 7 t d)) ⊢ ((dats m hO 0 c).leavesExact 7 t : sProp 𝕄) := by
  have h7 := step_before7 m hO c t d
  cases hi : (cfgM m hO).idle 7 ((cfgM m hO).grid.coords t)
  · rw [show (dats m hO 0 c).leavesExact 7 t = owns (c : Thread nD τ) (ms0_7 m hO t) fullShare ((dats m hO 0 c).after 7 t) from by
      unfold Dat.leavesExact; rw [hi]; rfl, after0_7, h7]
  · have hi' := (idle_7_iff m hO _).mp hi
    cases hf : ((cfgM m hO).win 7).flush t
    · rw [show (dats m hO 0 c).leavesExact 7 t = iprop(∃ d, owns (c : Thread nD τ) (ms0_7 m hO t) fullShare ((dats m hO 0 c).before 7 t d)) from by
        unfold Dat.leavesExact; rw [hi, hf]; rfl]
      have key : ∀ X : Vec F S256x3072 .f32, X = (dats m hO 0 c).before 7 t d →
          (owns (c : Thread nD τ) (ms0_7 m hO t) fullShare X ⊢ (iprop(∃ d, owns (c : Thread nD τ) (ms0_7 m hO t) fullShare ((dats m hO 0 c).before 7 t d)) : sProp 𝕄)) := by
        intro X hX; subst hX; iintro H; iexists d; iexact H
      exact key _ (at7_idle m hO c t hi'.1 hi'.2 _)
    · rw [show (dats m hO 0 c).leavesExact 7 t = owns (c : Thread nD τ) (ms0_7 m hO t) fullShare ((dats m hO 0 c).after 7 t) from by
        unfold Dat.leavesExact; rw [hi, hf]; rfl, after0_7, h7]

set_option maxHeartbeats 2400000 in
/-- The body at any point: the inputs' buffers hold their blocks, and the outputs' buffers are left one step further. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4]
  rw [show (dats m hO 0 c).Φ t.succ = (dats m hO 0 c).Φ t.castSucc from rfl,
    show (dats m hO 0 c).owesAt () t.succ = (dats m hO 0 c).owesAt () t.castSucc from rfl]
  rw [show (dats m hO 0 c).Φ t.castSucc = iprop(Pipeline.ΦA spec0 c ∗ Pipeline.ΦT pre0 (tbl m) c) from rfl, PhiT0_eq]
  have h23 : cond0_2 (grid0.coords t) ↔ ¬ cond0_1 (grid0.coords t) := by
    rw [hcond0_2 t, hcond0_1 t]; omega
  rw [show (dats m hO 0 c).leavesExact 0 t = owns (c : Thread nD τ) (ms0_0 m hO t) fullShare ((dats m hO 0 c).after 0 t) from by
    unfold Dat.leavesExact; rw [liveAt0_0 m hO t]; try rfl, after0_0]
  rw [show (dats m hO 0 c).leavesExact 1 t = owns (c : Thread nD τ) (ms0_1 m hO t) fullShare ((dats m hO 0 c).after 1 t) from by
    unfold Dat.leavesExact; rw [liveAt0_1 m hO t]; try rfl, after0_1]
  rw [show (dats m hO 0 c).leavesExact 2 t = owns (c : Thread nD τ) (ms0_2 m hO t) fullShare ((dats m hO 0 c).after 2 t) from by
    unfold Dat.leavesExact; rw [liveAt0_2 m hO t]; try rfl, after0_2]
  rw [show (dats m hO 0 c).leavesExact 3 t = owns (c : Thread nD τ) (ms0_3 m hO t) fullShare ((dats m hO 0 c).after 3 t) from by
    unfold Dat.leavesExact; rw [liveAt0_3 m hO t]; try rfl, after0_3]
  rw [show (dats m hO 0 c).leavesExact 4 t = owns (c : Thread nD τ) (ms0_4 m hO t) fullShare ((dats m hO 0 c).after 4 t) from by
    unfold Dat.leavesExact; rw [liveAt0_4 m hO t]; try rfl, after0_4]
  rw [show (dats m hO 0 c).leavesExact 5 t = owns (c : Thread nD τ) (ms0_5 m hO t) fullShare ((dats m hO 0 c).after 5 t) from by
    unfold Dat.leavesExact; rw [idle_5 m hO t]; try rfl, after0_5]
  rw [show (dats m hO 0 c).leavesExact 6 t = owns (c : Thread nD τ) (ms0_6 m hO t) fullShare ((dats m hO 0 c).after 6 t) from by
    unfold Dat.leavesExact; rw [idle_6 m hO t]; try rfl, after0_6]
  iintro ⟨⟨HΦ, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
  have run := run_body m c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) h23 (iblk m hO c 0 t) (iblk m hO c 1 t) (iblk m hO c 2 t) (iblk m hO c 3 t) (iblk m hO c 4 t) ((dats m hO 0 c).before 5 t d5) ((dats m hO 0 c).before 6 t d6) ((dats m hO 0 c).before 7 t d7) Set.univ
  iapply (run _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HT0]; · iexact HT0
  isplitl [HT1]; · iexact HT1
  iintro ⟨H0, H1, H2, H3, H4, H5, H6, H7, HT0, HT1⟩
  isplitl [HΦ HT0 HT1]
  · isplitl [HΦ]
    · iexact HΦ
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  isplitl [H5]
  · rw [← step_before5 m hO c t d5]; iexact H5
  isplitl [H6]
  · rw [← step_before6 m hO c t d6]; iexact H6
  iapply (leaves7 m hO c t d7); iexact H7

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-! ## The run and the frame -/

-- the implicit arguments are found by unifying the conclusion with this one, which takes unfolding plain definitions in
-- a metavariable's type
set_option backward.isDefEq.respectTransparency.types false in
/-- The launch: every final state has each output array at what the write-backs of its accumulator leave, every other buffer
    at its contents when the launch begins, and every semaphore counter at zero. -/
theorem run_main_quiescent (hO : Ok m) : θ_run defs (onTc (τ := τ) (main (F := F))) (s₀ m ρ) (fun r => Pipeline.FramePost (Pipeline.pin pcfgs fun _ => adm m hO) (dats m hO) 0 (V m) r ∧ r.2.sem = fun _ => 0) :=
  Pipeline.θ_run_frameP_shared (Q' := _) pcfgs (fun _ => adm m hO) (dats m hO) (0 : Fin 1) launch₀0 defs₀ Variants.none m ρ main
    (hbody := fun c => (body_obligation m hO c).loose) (hq := fun _ _ _ => rfl)
    (howed := fun _ _ => rfl) (V := V m) (hmain := hmain m Variants.none) (hA := A_eq m hO) (hpf := V_pre m) (hΦ := fun _ _ => rfl)
    (hQ' := fun _ h => h)

/-- At any values and from any memory whose counters are zero: every run of the program ends, with the argument arrays as
    they were and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c =>
      ⟨((h.1 c).1 1).trans ((Dat.arrAt_in (dats m (ok m) 0 c) 1 rfl _).trans (V_main_arg0 m c)),
       ((h.1 c).1 3).trans ((Dat.arrAt_in (dats m (ok m) 0 c) 3 rfl _).trans (V_main_arg1 m c)),
       ((h.1 c).2 main_arg2 (by decide : main_arg2 ∈ Pipeline.restRefs sig spec0)).trans (V_main_arg2 m c)⟩, h.2⟩)
    (run_main_quiescent m ρ (ok m))

end Cert.Kernel.Gen

end
-- ==== Proof.KernelIdeal.Base.lean ====
/- The schedule of the launch, the contents of its two tile-index tables, the blocks of its input windows and the conditions of the kernel body, for one printing of the kernel. -/
module

public import proofs.«01_k».proof.Proof.Gen.KernelIdeal
public import proofs.«01_k».proof.Proof.Gen.KernelIdeal.Launch
public import proofs.«01_k».proof.Proof.Gen.KernelIdeal.Skeleton
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Window 4 (operand 6 (%0)) is fetched at every point, at any contents of the tables (its index map reads none). -/
theorem fetch0_4 (a : (pcfg0 (F := F)).Adm) : ∀ t : Fin (cfg0 a).N, ((cfg0 a).win 4).fetch t = true :=
  (fun t => (Pipeline.Window.fetchOf_reads cc0_transform_4 reads0_4 hreads0_4 1 (by decide) (by decide) (Pipeline.Window.sep_of_coord cc0_transform_4 1 0 (fun _ => rfl) (by decide)) (P := 1) (by decide) t).mpr (Nat.mod_one _) : ∀ t : Fin grid0.N, Pipeline.Window.fetchOf grid0 false cc0_transform_4 t = true)
/-- Window 5 (result 0 (%1#0)) is written back at the points ≡ 3 (mod 4), at any contents of the tables (its index map reads none). -/
theorem flush0_5 (a : (pcfg0 (F := F)).Adm) : ∀ t : Fin (cfg0 a).N, ((cfg0 a).win 5).flush t = true ↔ t.val % 4 = 3 :=
  (fun t => Pipeline.Window.flushOf_reads cc0_transform_5 reads0_5 hreads0_5 0 (by decide) (by decide) (Pipeline.Window.sep_of_coord cc0_transform_5 0 0 (fun _ => rfl) (by decide)) (P := 4) (m := 3) (by decide) rfl t : ∀ t : Fin grid0.N, Pipeline.Window.flushOf grid0 true cc0_transform_5 t = true ↔ t.val % 4 = 3)
/-- Window 6 (result 1 (%1#1)) is written back at the last point only, at any contents of the tables (its index map reads none). -/
theorem flush0_6 (a : (pcfg0 (F := F)).Adm) : ∀ t : Fin (cfg0 a).N, ((cfg0 a).win 6).flush t = true ↔ t.val % 84 = 83 :=
  (fun t => Pipeline.Window.flushOf_const cc0_transform_6 (fun _ _ => rfl) (n := 84) (by decide) rfl t : ∀ t : Fin grid0.N, Pipeline.Window.flushOf grid0 true cc0_transform_6 t = true ↔ t.val % 84 = 83)
/-- Window 7 (result 2 (%1#2)) is written back at the last point only, at any contents of the tables (its index map reads none). -/
theorem flush0_7 (a : (pcfg0 (F := F)).Adm) : ∀ t : Fin (cfg0 a).N, ((cfg0 a).win 7).flush t = true ↔ t.val % 84 = 83 :=
  (fun t => Pipeline.Window.flushOf_const cc0_transform_7 (fun _ _ => rfl) (n := 84) (by decide) rfl t : ∀ t : Fin grid0.N, Pipeline.Window.flushOf grid0 true cc0_transform_7 t = true ↔ t.val % 84 = 83)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_gram (grid0.coords t) (Memref.whole main_c) (Memref.isWhole_whole _) (Memref.whole main_c_0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7))

/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 2) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S21 .i32 := Memref.whole main_c
abbrev htbM0_0 : tbM0_0.IsWhole := Memref.isWhole_whole _
abbrev tbM0_1 : Memref sig .tc .smem S21 .i32 := Memref.whole main_c_0
abbrev htbM0_1 : tbM0_1.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_KernelIdeal`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(Pipeline.RDat.FramePost.arr_in h c 1 rfl).trans ((hA c 1).trans (V_main_arg0 m c)),
      (Pipeline.RDat.FramePost.arr_in h c 3 rfl).trans ((hA c 3).trans (V_main_arg1 m c)),
      ((h c).2 main_arg2 (by decide : main_arg2 ∈ Pipeline.restRefs sig spec0)).trans (V_main_arg2 m c)⟩) h

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin grid0.N, cond0_0 (grid0.coords t) ↔ t.val % 84 = 0 :=
  (fun t => by
    have ht : t.val < 84 := Nat.lt_of_lt_of_eq t.isLt N_0
    have e0 : (grid0.coords t 0).val = t.val / 4 % 21 := Pipeline.Grid.coords_val t 0 (by decide) rfl
    have e1 : (grid0.coords t 1).val = t.val / 1 % 4 := Pipeline.Grid.coords_val t 1 (by decide) rfl
    simp only [cond0_0, k0_cond1, e0, e1]
    word_cmp
   : ∀ t : Fin grid0.N, cond0_0 (grid0.coords t) ↔ t.val % 84 = 0)

/-- The condition of the body's `scf.if` 1 (`k0_h2`), from the grid coordinates (the skeleton's scalar
    chain substituted). -/
abbrev cond0_1 (i : grid0.Coords) : Prop := k0_cond2 i = 1#1
/-- It holds at the points ≡ 0 (mod 4) — by arithmetic of the point. -/
theorem hcond0_1 : ∀ t : Fin grid0.N, cond0_1 (grid0.coords t) ↔ t.val % 4 = 0 :=
  (fun t => by
    have ht : t.val < 84 := Nat.lt_of_lt_of_eq t.isLt N_0
    have e0 : (grid0.coords t 0).val = t.val / 4 % 21 := Pipeline.Grid.coords_val t 0 (by decide) rfl
    have e1 : (grid0.coords t 1).val = t.val / 1 % 4 := Pipeline.Grid.coords_val t 1 (by decide) rfl
    simp only [cond0_1, k0_cond2, e0, e1]
    word_cmp
   : ∀ t : Fin grid0.N, cond0_1 (grid0.coords t) ↔ t.val % 4 = 0)

/-- The condition of the body's `scf.if` 2 (`k0_h3`), from the grid coordinates (the skeleton's scalar
    chain substituted). -/
abbrev cond0_2 (i : grid0.Coords) : Prop := k0_cond3 i = 1#1
/-- It holds at the points whose coordinates have 1 ≤ i1 — decided over the grid. -/
theorem hcond0_2 : ∀ t : Fin grid0.N, cond0_2 (grid0.coords t) ↔ 1 ≤ t.val % 4 :=
  (by decide +kernel : ∀ t : Fin grid0.N, cond0_2 (grid0.coords t) ↔ 1 ≤ t.val % 4)

/-- Window 0 is never idle (an input). -/
theorem liveAt0_0 (hO : Ok m) : ∀ t : Fin (cfgM m hO).N, (cfgM m hO).idle 0 (grid0.coords t) = false :=
  fun _ => rfl
/-- Window 1 is never idle (an input). -/
theorem liveAt0_1 (hO : Ok m) : ∀ t : Fin (cfgM m hO).N, (cfgM m hO).idle 1 (grid0.coords t) = false :=
  fun _ => rfl
/-- Window 2 is never idle (an input). -/
theorem liveAt0_2 (hO : Ok m) : ∀ t : Fin (cfgM m hO).N, (cfgM m hO).idle 2 (grid0.coords t) = false :=
  fun _ => rfl
/-- Window 3 is never idle (an input). -/
theorem liveAt0_3 (hO : Ok m) : ∀ t : Fin (cfgM m hO).N, (cfgM m hO).idle 3 (grid0.coords t) = false :=
  fun _ => rfl
/-- Window 4 is never idle (an input). -/
theorem liveAt0_4 (hO : Ok m) : ∀ t : Fin (cfgM m hO).N, (cfgM m hO).idle 4 (grid0.coords t) = false :=
  fun _ => rfl
/-- Each window's current staging memref at point `t`, spelled as the pipeline passes it (`bodyAt0`), and its wholeness. -/
abbrev ms0_0 (hO : Ok m) (t : Fin (cfgM m hO).N) : Memref sig .tc .vmem S1x4096x512 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x4096x512 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x512x256 .i8 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x512x256 .i8 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1x256 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x512x512 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S3072x256 .f32 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S256x3072 .f32 := spec0_7.stage ((cfgM m hO).slots t 7)
abbrev hs0_7 (hO : Ok m) (t : Fin (cfgM m hO).N) : (ms0_7 m hO t).IsWhole := hstage0_7 (((cfgM m hO).slots t 7).cast nbuf0_7)

/-! ## The tables -/

/-- The two tables of tile indices, as the host wrote them. -/
theorem tbl_0 : tbl m 0 = fun i => lit0 (S21.rowMajor i) := by
  unfold tbl
  show StableHlo.after hostOps0 (fun b => m ((0 : Dev nD), b)) (Proc.devRef .tc main_c) = _
  after_results
  rfl
theorem tbl_1 : tbl m 1 = fun i => lit1 (S21.rowMajor i) := by
  unfold tbl
  show StableHlo.after hostOps0 (fun b => m ((0 : Dev nD), b)) (Proc.devRef .tc main_c_0) = _
  after_results
  rfl

/-- The row tile and the column tile of grid point `i`. -/
def rowT (i : grid0.Coords) : BitVec 32 := lit0 (i 0)
def colT (i : grid0.Coords) : BitVec 32 := lit1 (i 0)

/-- The element of a table that a grid point reads is the one of its first coordinate. -/
theorem word_ix_val : ∀ i : grid0.Coords, (S21.rowMajor ((Rect.unit (s := S21) (k0_off1 i) S1.size (k0_off1_inb i)).emb (Shape.Idx.first (numel1_S1.symm ▸ Nat.one_pos)))).val = (i 0).val := by
  decide +kernel
theorem word_ix (i : grid0.Coords) : S21.rowMajor ((Rect.unit (s := S21) (k0_off1 i) S1.size (k0_off1_inb i)).emb (Shape.Idx.first (numel1_S1.symm ▸ Nat.one_pos))) = i 0 :=
  Fin.ext (word_ix_val i)

/-- The words the body reads of the tables at a grid point. -/
theorem word_0 (i : grid0.Coords) : tbM0_0.view.readAt (Elt F) (Rect.unit (s := S21) (k0_off1 i) S1.size (k0_off1_inb i)).toLoadRect (tbl m 0) (Shape.Idx.first (numel1_S1.symm ▸ Nat.one_pos)) = rowT i := by
  exact (congrFun (tbl_0 m) ((Rect.unit (s := S21) (k0_off1 i) S1.size (k0_off1_inb i)).emb (Shape.Idx.first (numel1_S1.symm ▸ Nat.one_pos)))).trans (congrArg lit0 (word_ix i))
theorem word_1 (i : grid0.Coords) : tbM0_1.view.readAt (Elt F) (Rect.unit (s := S21) (k0_off1 i) S1.size (k0_off1_inb i)).toLoadRect (tbl m 1) (Shape.Idx.first (numel1_S1.symm ▸ Nat.one_pos)) = colT i := by
  exact (congrFun (tbl_1 m) ((Rect.unit (s := S21) (k0_off1 i) S1.size (k0_off1_inb i)).emb (Shape.Idx.first (numel1_S1.symm ▸ Nat.one_pos)))).trans (congrArg lit1 (word_ix i))

/-- The words the block indices of the windows read of the tables at a grid point. -/
theorem at_0 (i : grid0.Coords) : (tbl m).at 0 (Rect.unit (s := S21) (k0_off1 i) S1.size (k0_off1_inb i)) numel1_S1 = rowT i := by
  show tbl m 0 _ = _
  rw [tbl_0]
  exact congrArg lit0 (word_ix i)
theorem at_1 (i : grid0.Coords) : (tbl m).at 1 (Rect.unit (s := S21) (k0_off1 i) S1.size (k0_off1_inb i)) numel1_S1 = colT i := by
  show tbl m 1 _ = _
  rw [tbl_1]
  exact congrArg lit1 (word_ix i)

/-- The block index of each input window whose index map reads a table, at a grid point. -/
theorem tr_0 (i : grid0.Coords) : cc0_transform_0 k0_off1_inb numel1_S1 (tbl m) i = ![(BitVec.ofNat 32 (i 1).val).toNat, (0#32).toNat, (rowT i).toNat] := by
  rw [← at_0 m i]; rfl
theorem tr_1 (i : grid0.Coords) : cc0_transform_1 k0_off1_inb numel1_S1 (tbl m) i = ![(BitVec.ofNat 32 (i 1).val).toNat, (0#32).toNat, (colT i).toNat] := by
  rw [← at_1 m i]; rfl
theorem tr_2 (i : grid0.Coords) : cc0_transform_2 k0_off1_inb numel1_S1 (tbl m) i = ![(BitVec.ofNat 32 (i 1).val).toNat, (rowT i).toNat, (0#32).toNat] := by
  rw [← at_0 m i]; rfl
theorem tr_3 (i : grid0.Coords) : cc0_transform_3 k0_off1_inb numel1_S1 (tbl m) i = ![(BitVec.ofNat 32 (i 1).val).toNat, (colT i).toNat, (0#32).toNat] := by
  rw [← at_1 m i]; rfl

/-- Every block the tables select lies inside its array and is moved in whole words, window by window, -/
theorem ok_0 : ∀ i : grid0.Coords, ∃ h : (∀ a, ((![(BitVec.ofNat 32 (i 1).val).toNat, (0#32).toNat, (rowT i).toNat] : Fin 3 → Nat) a + 1) * S1x4096x512.size a ≤ S4x4096x3072.size a), EltTy.bits .bf16 = 32 ∨ (Rect.block (s := S4x4096x3072) S1x4096x512.size (![(BitVec.ofNat 32 (i 1).val).toNat, (0#32).toNat, (rowT i).toNat] : Fin 3 → Nat) h).WholeWords (EltTy.packing .bf16) := by
  decide +kernel
theorem ok_1 : ∀ i : grid0.Coords, ∃ h : (∀ a, ((![(BitVec.ofNat 32 (i 1).val).toNat, (0#32).toNat, (colT i).toNat] : Fin 3 → Nat) a + 1) * S1x4096x512.size a ≤ S4x4096x3072.size a), EltTy.bits .bf16 = 32 ∨ (Rect.block (s := S4x4096x3072) S1x4096x512.size (![(BitVec.ofNat 32 (i 1).val).toNat, (0#32).toNat, (colT i).toNat] : Fin 3 → Nat) h).WholeWords (EltTy.packing .bf16) := by
  decide +kernel
theorem ok_2 : ∀ i : grid0.Coords, ∃ h : (∀ a, ((![(BitVec.ofNat 32 (i 1).val).toNat, (rowT i).toNat, (0#32).toNat] : Fin 3 → Nat) a + 1) * S1x512x256.size a ≤ S4x3072x256.size a), EltTy.bits .i8 = 32 ∨ (Rect.block (s := S4x3072x256) S1x512x256.size (![(BitVec.ofNat 32 (i 1).val).toNat, (rowT i).toNat, (0#32).toNat] : Fin 3 → Nat) h).WholeWords (EltTy.packing .i8) := by
  decide +kernel
theorem ok_3 : ∀ i : grid0.Coords, ∃ h : (∀ a, ((![(BitVec.ofNat 32 (i 1).val).toNat, (colT i).toNat, (0#32).toNat] : Fin 3 → Nat) a + 1) * S1x512x256.size a ≤ S4x3072x256.size a), EltTy.bits .i8 = 32 ∨ (Rect.block (s := S4x3072x256) S1x512x256.size (![(BitVec.ofNat 32 (i 1).val).toNat, (colT i).toNat, (0#32).toNat] : Fin 3 → Nat) h).WholeWords (EltTy.packing .i8) := by
  decide +kernel
/-- and together: the side condition of the tables. -/
theorem ok : Ok m := by
  unfold Ok ok0
  simp only [tr_0, tr_1, tr_2, tr_3]
  exact ⟨ok_0, ok_1, ok_2, ok_3⟩

/-- The rows and the columns the body updates lie inside its outputs. -/
theorem chk1 : ∀ i : grid0.Coords, k0_chk1 (rowT i) := by decide +kernel
theorem chk2 : ∀ i : grid0.Coords, k0_chk2 (rowT i) (colT i) := by decide +kernel

/-- The condition of the strictly-upper update: the two tiles differ. -/
abbrev cond0_3 (i : grid0.Coords) : Prop := k0_cond4 (rowT i) (colT i) = 1#1

theorem off1_lt : ∀ i : grid0.Coords, ∀ a : Fin 1, k0_off1 i a + 1 ≤ S21.size a := by decide +kernel

/-- The same words as the table of idle points reads them. -/
theorem atD_0 (i : grid0.Coords) : (tbl m).atD 0 (k0_off1 i) = rowT i := by
  have h : ∀ a : Fin (pre0.ref 0).ty.shape.rank, k0_off1 i a + 1 ≤ (pre0.ref 0).ty.shape.size a := off1_lt i
  refine (dif_pos h).trans ?_
  rw [tbl_0]
  exact congrArg lit0 (word_ix i)
theorem atD_1 (i : grid0.Coords) : (tbl m).atD 1 (k0_off1 i) = colT i := by
  have h : ∀ a : Fin (pre0.ref 1).ty.shape.rank, k0_off1 i a + 1 ≤ (pre0.ref 1).ty.shape.size a := off1_lt i
  refine (dif_pos h).trans ?_
  rw [tbl_1]
  exact congrArg lit1 (word_ix i)

end Cert.KernelIdeal.Gen

end
-- ==== Proof.KernelIdeal.Body.lean ====
/- One run of the kernel body: what each output buffer holds after a grid point, as a function of what it held before. -/
module

public import proofs.«01_k».proof.Proof.KernelIdeal.Base

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Overwriting a rectangle -/

/-- Contents `X` with the rectangle `r` overwritten by `w`. -/
def upd {s : Shape} {α : Type} (r : Rect s) (w : r.shape.Idx → α) (X : s.Idx → α) : s.Idx → α :=
  fun y => if h : ∃ x, r.emb x = y then w h.choose else X y

theorem upd_emb {s : Shape} {α : Type} (r : Rect s) (w : r.shape.Idx → α) (X : s.Idx → α) (x : r.shape.Idx) :
    upd r w X (r.emb x) = w x := by
  have h : ∃ x', r.emb x' = r.emb x := ⟨x, rfl⟩
  unfold upd
  rw [dif_pos h]
  exact congrArg w (r.emb.injective h.choose_spec)

theorem upd_not {s : Shape} {α : Type} (r : Rect s) (w : r.shape.Idx → α) (X : s.Idx → α) (y : s.Idx)
    (h : ∀ x, r.emb x ≠ y) : upd r w X y = X y := by
  unfold upd
  rw [dif_neg (fun ⟨x, hx⟩ => h x hx)]

/-- What a buffer reads after a store through a rectangle. -/
theorem read_writes_cons_upd {κ : Kind} {sp : Space} {s : Shape} {e : EltTy} (v : View sig κ sp s e) (f : v.ty.Contents (Elt F))
    (r : Rect s) (w : r.shape.Idx → Elt F e) (L : List (View.Piece (Elt F) s e)) :
    v.read (Elt F) (v.writes (Elt F) f (⟨r, w⟩ :: L)) = upd r w (v.read (Elt F) (v.writes (Elt F) f L)) := by
  funext y
  by_cases h : ∃ x, r.emb x = y
  · obtain ⟨x, rfl⟩ := h
    rw [View.read_writes_cons_emb, upd_emb]
  · rw [upd_not _ _ _ _ (fun x hx => h ⟨x, hx⟩)]
    refine View.read_writes_cons_miss v f ⟨r, w⟩ L y fun hy => h ?_
    obtain ⟨x, hx⟩ := r.exists_idx_of_mem hy
    exact ⟨x, hx⟩

/-! ## What one grid point leaves in the outputs -/

/-- The tile of the merged matrix after a grid point: this point's contribution at the first batch, added to what was
    there at the others. -/
def step5 (i : grid0.Coords) (v1 v3 : BitVec 32) (x0 x1 : Vec F S1x4096x512 .bf16) (d : Vec F S1x512x512 .f32) : Vec F S1x512x512 .f32 :=
  if cond0_1 i then k0_pay6 v1 v3 x0 x1 else k0_pay7 v1 v3 x0 x1 d

/-- The right-hand side accumulator as the point's updates find it: zero at the first point. -/
def base6 (i : grid0.Coords) (d : Vec F S3072x256 .f32) : Vec F S3072x256 .f32 := if cond0_0 i then k0_pay3 else d
def base7 (i : grid0.Coords) (d : Vec F S256x3072 .f32) : Vec F S256x3072 .f32 := if cond0_0 i then k0_pay4 else d

/-- The right-hand side accumulator after a grid point: the point's row tile increased. -/
def step6 (i : grid0.Coords) (v1 v3 : BitVec 32) (h1 : k0_chk1 v1) (x0 x1 : Vec F S1x4096x512 .bf16) (x3 : Vec F S1x512x256 .i8) (x4 : Vec F S1x1x256 .f32)
    (d : Vec F S3072x256 .f32) : Vec F S3072x256 .f32 :=
  upd (Rect.unit (s := S3072x256) (k0_off2 v1) S512x256.size (k0_off2_inb v1 h1))
    (k0_pay1 (k0_pay8 v1 v3 x0 x1) (k0_pay10 v1 v3 x0 x1) (k0_pay11 v1 v3 x0 x1) x3 x4
      (fun x => base6 i d ((Rect.unit (s := S3072x256) (k0_off2 v1) S512x256.size (k0_off2_inb v1 h1)).emb x)))
    (base6 i d)

/-- The transposed accumulator after a grid point: the point's column tile increased when the two tiles differ. -/
def step7 (i : grid0.Coords) (v1 v3 : BitVec 32) (h2 : k0_chk2 v1 v3) (x0 x1 : Vec F S1x4096x512 .bf16) (x2 : Vec F S1x512x256 .i8) (x4 : Vec F S1x1x256 .f32)
    (d : Vec F S256x3072 .f32) : Vec F S256x3072 .f32 :=
  if h : k0_cond4 v1 v3 = 1#1 then
    upd (Rect.unit (s := S256x3072) (k0_off3 v3) S256x512.size (k0_off3_inb v1 v3 h2 h))
      (k0_pay2 (k0_pay8 v1 v3 x0 x1) (k0_pay10 v1 v3 x0 x1) (k0_pay11 v1 v3 x0 x1) x2 x4
        (fun x => base7 i d ((Rect.unit (s := S256x3072) (k0_off3 v3) S256x512.size (k0_off3_inb v1 v3 h2 h)).emb x)))
      (base7 i d)
  else base7 i d

theorem unit_emb_whole {s : Shape} (off : Fin s.rank → ℕ) (inb : ∀ a, off a + s.size a ≤ s.size a) (y : s.Idx) :
    (Rect.unit (s := s) off s.size inb).emb y = y := by
  funext a
  apply Fin.ext
  have := inb a
  rw [Rect.emb_apply, Rect.off_unit, Rect.stride_unit]
  omega

/-- A store over the whole of a shape leaves the stored value. -/
theorem upd_whole {s : Shape} {α : Type} (off : Fin s.rank → ℕ) (inb : ∀ a, off a + s.size a ≤ s.size a) (w : s.Idx → α) (X : s.Idx → α) :
    upd (Rect.unit (s := s) off s.size inb) w X = w := by
  funext y
  have := upd_emb (Rect.unit (s := s) off s.size inb) w X y
  rwa [unit_emb_whole] at this

/-- A load of the whole of a buffer that holds `x` gives `x`. -/
theorem readAt_whole {κ : Kind} {sp : Space} {s : Shape} {e : EltTy} (a : Memref sig κ sp s e) (ha : a.IsWhole) (x : Vec F s e)
    (off : Fin s.rank → ℕ) (inb : ∀ k, off k + s.size k ≤ s.size k) :
    a.view.readAt (Elt F) (Rect.unit (s := s) off s.size inb).toLoadRect (ha.unread x) = x := by
  have h : a.view.read (Elt F) (ha.unread x) = x := ha.read_unread x
  have h2 : a.view.readAt (Elt F) (Rect.unit (s := s) off s.size inb).toLoadRect (ha.unread x)
      = fun y => a.view.read (Elt F) (ha.unread x) ((Rect.unit (s := s) off s.size inb).emb y) := rfl
  rw [h2, h]
  funext y
  exact congrArg x (unit_emb_whole off inb y)

theorem step5_pos (i : grid0.Coords) {v1 v3 w1 w3 : BitVec 32} {x0 x1 y0 y1 : Vec F S1x4096x512 .bf16} (d : Vec F S1x512x512 .f32)
    (h : cond0_1 i) (e1 : w1 = v1) (e3 : w3 = v3) (e0 : y0 = x0) (e0' : y1 = x1) : k0_pay6 w1 w3 y0 y1 = step5 i v1 v3 x0 x1 d := by
  subst e1 e3 e0 e0'; exact (if_pos h).symm

theorem step5_neg (i : grid0.Coords) {v1 v3 w1 w3 : BitVec 32} {x0 x1 y0 y1 : Vec F S1x4096x512 .bf16} {d d' : Vec F S1x512x512 .f32}
    (h : ¬ cond0_1 i) (e1 : w1 = v1) (e3 : w3 = v3) (e0 : y0 = x0) (e0' : y1 = x1) (ed : d' = d) : k0_pay7 w1 w3 y0 y1 d' = step5 i v1 v3 x0 x1 d := by
  subst e1 e3 e0 e0' ed; exact (if_neg h).symm

theorem step6_of (i : grid0.Coords) {v1 v3 w1 w3 : BitVec 32} (h1 : k0_chk1 v1) (h1' : k0_chk1 w1) {x0 x1 y0 y1 : Vec F S1x4096x512 .bf16}
    {x3 y3 : Vec F S1x512x256 .i8} {x4 y4 : Vec F S1x1x256 .f32} {d B : Vec F S3072x256 .f32}
    (e1 : w1 = v1) (e3 : w3 = v3) (e0 : y0 = x0) (e0' : y1 = x1) (ex3 : y3 = x3) (ex4 : y4 = x4) (eB : B = base6 i d) :
    upd (Rect.unit (s := S3072x256) (k0_off2 w1) S512x256.size (k0_off2_inb w1 h1'))
      (k0_pay1 (k0_pay8 w1 w3 y0 y1) (k0_pay10 w1 w3 y0 y1) (k0_pay11 w1 w3 y0 y1) y3 y4
        (fun x => B ((Rect.unit (s := S3072x256) (k0_off2 w1) S512x256.size (k0_off2_inb w1 h1')).emb x))) B
      = step6 i v1 v3 h1 x0 x1 x3 x4 d := by
  subst e1 e3 e0 e0' ex3 ex4 eB; rfl

theorem step7_of (i : grid0.Coords) {v1 v3 w1 w3 : BitVec 32} (h2 : k0_chk2 v1 v3) (h2' : k0_chk2 w1 w3) (h : k0_cond4 w1 w3 = 1#1) {x0 x1 y0 y1 : Vec F S1x4096x512 .bf16}
    {x2 y2 : Vec F S1x512x256 .i8} {x4 y4 : Vec F S1x1x256 .f32} {d B : Vec F S256x3072 .f32}
    (e1 : w1 = v1) (e3 : w3 = v3) (e0 : y0 = x0) (e0' : y1 = x1) (ex2 : y2 = x2) (ex4 : y4 = x4) (eB : B = base7 i d) :
    upd (Rect.unit (s := S256x3072) (k0_off3 w3) S256x512.size (k0_off3_inb w1 w3 h2' h))
      (k0_pay2 (k0_pay8 w1 w3 y0 y1) (k0_pay10 w1 w3 y0 y1) (k0_pay11 w1 w3 y0 y1) y2 y4
        (fun x => B ((Rect.unit (s := S256x3072) (k0_off3 w3) S256x512.size (k0_off3_inb w1 w3 h2' h)).emb x))) B
      = step7 i v1 v3 h2 x0 x1 x2 x4 d := by
  subst e1 e3 e0 e0' ex2 ex4 eB; unfold step7; rw [dif_pos h]

theorem step7_neg (i : grid0.Coords) {v1 v3 w1 w3 : BitVec 32} (h2 : k0_chk2 v1 v3) (h : ¬ k0_cond4 w1 w3 = 1#1) (x0 x1 : Vec F S1x4096x512 .bf16)
    (x2 : Vec F S1x512x256 .i8) (x4 : Vec F S1x1x256 .f32) {d B : Vec F S256x3072 .f32}
    (e1 : w1 = v1) (e3 : w3 = v3) (eB : B = base7 i d) : B = step7 i v1 v3 h2 x0 x1 x2 x4 d := by
  subst e1 e3 eB; unfold step7; rw [dif_neg h]

theorem base6_pos (i : grid0.Coords) (d : Vec F S3072x256 .f32) (h : cond0_0 i) : k0_pay3 = base6 i d := (if_pos h).symm
theorem base6_neg (i : grid0.Coords) (d : Vec F S3072x256 .f32) (h : ¬ cond0_0 i) : d = base6 i d := (if_neg h).symm
theorem base7_pos (i : grid0.Coords) (d : Vec F S256x3072 .f32) (h : cond0_0 i) : k0_pay4 = base7 i d := (if_pos h).symm
theorem base7_neg (i : grid0.Coords) (d : Vec F S256x3072 .f32) (h : ¬ cond0_0 i) : d = base7 i d := (if_neg h).symm

/-- What a buffer reads after a store over the whole of it. -/
theorem read_writes_whole {κ : Kind} {sp : Space} {s : Shape} {e : EltTy} (v : View sig κ sp s e) (f : v.ty.Contents (Elt F))
    (off : Fin s.rank → ℕ) (inb : ∀ a, off a + s.size a ≤ s.size a) (w : s.Idx → Elt F e) (L : List (View.Piece (Elt F) s e)) :
    v.read (Elt F) (v.writes (Elt F) f (⟨Rect.unit (s := s) off s.size inb, w⟩ :: L)) = w :=
  (read_writes_cons_upd v f (Rect.unit (s := s) off s.size inb) w L).trans (upd_whole off inb w _)

set_option maxHeartbeats 4000000 in
/-- The body at a grid point: the inputs' staging buffers are left as they were, and the three outputs' at the steps above
    of what they held. -/
theorem run_body (c : Dev nD) (i : grid0.Coords) (arg4 : Memref sig .tc .vmem S1x4096x512 .bf16) (harg4 : arg4.IsWhole) (arg5 : Memref sig .tc .vmem S1x4096x512 .bf16) (harg5 : arg5.IsWhole) (arg6 : Memref sig .tc .vmem S1x512x256 .i8) (harg6 : arg6.IsWhole) (arg7 : Memref sig .tc .vmem S1x512x256 .i8) (harg7 : arg7.IsWhole) (arg8 : Memref sig .tc .vmem S1x1x256 .f32) (harg8 : arg8.IsWhole) (arg9 : Memref sig .tc .vmem S1x512x512 .f32) (harg9 : arg9.IsWhole) (arg10 : Memref sig .tc .vmem S3072x256 .f32) (harg10 : arg10.IsWhole) (arg11 : Memref sig .tc .vmem S256x3072 .f32) (harg11 : arg11.IsWhole) (h23 : cond0_2 i ↔ ¬ cond0_1 i)
    (x0 : Vec F S1x4096x512 .bf16) (x1 : Vec F S1x4096x512 .bf16) (x2 : Vec F S1x512x256 .i8) (x3 : Vec F S1x512x256 .i8) (x4 : Vec F S1x1x256 .f32) (d5 : Vec F S1x512x512 .f32) (d6 : Vec F S3072x256 .f32) (d7 : Vec F S256x3072 .f32) :
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare d5 ∗ owns (c : Thread nD τ) arg10 fullShare d6 ∗ owns (c : Thread nD τ) arg11 fullShare d7 ∗ tbPt0 c tbM0_0 (tbl m 0) ∗ tbPt0 c tbM0_1 (tbl m 1)
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare (step5 i (rowT i) (colT i) x0 x1 d5) ∗ owns (c : Thread nD τ) arg10 fullShare (step6 i (rowT i) (colT i) (chk1 i) x0 x1 x3 x4 d6) ∗ owns (c : Thread nD τ) arg11 fullShare (step7 i (rowT i) (colT i) (chk2 i) x0 x1 x2 x4 d7) ∗ tbPt0 c tbM0_0 (tbl m 0) ∗ tbPt0 c tbM0_1 (tbl m 1)) -∗ K ⟨⟩))
          ⊢ wp frame (wpE (defs₀ (F := F)) Variants.none c none) E (cc0_gram i tbM0_0 htbM0_0 tbM0_1 htbM0_1 arg4 harg4 arg5 harg5 arg6 harg6 arg7 harg7 arg8 harg8 arg9 harg9 arg10 harg10 arg11 harg11) K := by
    intro E K
    have hw1 := word_0 m i
    have hw2 := word_1 m i
    have k0_hw1 : k0_chk1 (tbM0_0.view.readAt (Elt F) (Rect.unit (s := S21) (k0_off1 i) S1.size (k0_off1_inb i)).toLoadRect (tbl m 0) (Shape.Idx.first (numel1_S1.symm ▸ Nat.one_pos))) := hw1 ▸ chk1 i
    have k0_hw2 : k0_chk2 (tbM0_0.view.readAt (Elt F) (Rect.unit (s := S21) (k0_off1 i) S1.size (k0_off1_inb i)).toLoadRect (tbl m 0) (Shape.Idx.first (numel1_S1.symm ▸ Nat.one_pos))) (tbM0_1.view.readAt (Elt F) (Rect.unit (s := S21) (k0_off1 i) S1.size (k0_off1_inb i)).toLoadRect (tbl m 1) (Shape.Idx.first (numel1_S1.symm ▸ Nat.one_pos))) := by rw [hw1, hw2]; exact chk2 i
    simp only [cc0_gram_eq_skeleton]; unfold cc0_gram_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, HT0, HT1, Hk⟩
    obtain rfl := harg4.eq_unread hf0; obtain rfl := harg5.eq_unread hf1; obtain rfl := harg6.eq_unread hf2; obtain rfl := harg7.eq_unread hf3; obtain rfl := harg8.eq_unread hf4
    have e5 : ∀ (off : Fin 3 → ℕ) (inb : ∀ k, off k + S1x512x512.size k ≤ S1x512x512.size k), arg9.view.readAt (Elt F) (Rect.unit (s := S1x512x512) off S1x512x512.size inb).toLoadRect f5 = d5 := by
      intro off inb
      refine Eq.trans (b := fun y => arg9.view.read (Elt F) f5 ((Rect.unit (s := S1x512x512) off S1x512x512.size inb).emb y)) rfl ?_
      rw [hf5]
      funext y
      exact congrArg d5 (unit_emb_whole off inb y)
    by_cases hc0 : cond0_0 i
    · by_cases hc1 : cond0_1 i
      · by_cases hc3 : k0_cond4 (tbM0_0.view.readAt (Elt F) (Rect.unit (s := S21) (k0_off1 i) S1.size (k0_off1_inb i)).toLoadRect (tbl m 0) (Shape.Idx.first (numel1_S1.symm ▸ Nat.one_pos))) (tbM0_1.view.readAt (Elt F) (Rect.unit (s := S21) (k0_off1 i) S1.size (k0_off1_inb i)).toLoadRect (tbl m 1) (Shape.Idx.first (numel1_S1.symm ▸ Nat.one_pos))) = 1#1
        · have hc2 : ¬ cond0_2 i := fun h => h23.mp h hc1
          sl_exec (disch := first | sl_exact hc0 | sl_exact hc1 | sl_exact hc2 | sl_exact k0_hw1 | sl_exact k0_hw2 | sl_exact hc3)
          sl_step
          iapply Hk
          isplitl [H0]
          · iexists _; isplitr; · ipureintro; exact harg4.read_unread _
            iexact H0
          isplitl [H1]
          · iexists _; isplitr; · ipureintro; exact harg5.read_unread _
            iexact H1
          isplitl [H2]
          · iexists _; isplitr; · ipureintro; exact harg6.read_unread _
            iexact H2
          isplitl [H3]
          · iexists _; isplitr; · ipureintro; exact harg7.read_unread _
            iexact H3
          isplitl [H4]
          · iexists _; isplitr; · ipureintro; exact harg8.read_unread _
            iexact H4
          isplitl [H5]
          · iexists _; isplitr; swap; · iexact H5
            ipureintro; exact (read_writes_whole _ _ _ _ _ _).trans (step5_pos i d5 hc1 hw1 hw2 (readAt_whole arg4 harg4 x0 _ _) (readAt_whole arg5 harg5 x1 _ _))
          isplitl [H6]
          · iexists _; isplitr; swap; · iexact H6
            ipureintro; exact (read_writes_cons_upd _ _ _ _ _).trans (step6_of i (chk1 i) k0_hw1 hw1 hw2 (readAt_whole arg4 harg4 x0 _ _) (readAt_whole arg5 harg5 x1 _ _) (readAt_whole arg7 harg7 x3 _ _) (readAt_whole arg8 harg8 x4 _ _) ((read_writes_whole _ _ _ _ _ _).trans (base6_pos i d6 hc0)))
          isplitl [H7]
          · iexists _; isplitr; swap; · iexact H7
            ipureintro; exact (read_writes_cons_upd _ _ _ _ _).trans (step7_of i (chk2 i) k0_hw2 hc3 hw1 hw2 (readAt_whole arg4 harg4 x0 _ _) (readAt_whole arg5 harg5 x1 _ _) (readAt_whole arg6 harg6 x2 _ _) (readAt_whole arg8 harg8 x4 _ _) ((read_writes_whole _ _ _ _ _ _).trans (base7_pos i d7 hc0)))
          isplitl [HT0]; · iexact HT0
          iexact HT1
        · have hc2 : ¬ cond0_2 i := fun h => h23.mp h hc1
          sl_exec (disch := first | sl_exact hc0 | sl_exact hc1 | sl_exact hc2 | sl_exact k0_hw1 | sl_exact k0_hw2 | sl_exact hc3)
          sl_step
          iapply Hk
          isplitl [H0]
          · iexists _; isplitr; · ipureintro; exact harg4.read_unread _
            iexact H0
          isplitl [H1]
          · iexists _; isplitr; · ipureintro; exact harg5.read_unread _
            iexact H1
          isplitl [H2]
          · iexists _; isplitr; · ipureintro; exact harg6.read_unread _
            iexact H2
          isplitl [H3]
          · iexists _; isplitr; · ipureintro; exact harg7.read_unread _
            iexact H3
          isplitl [H4]
          · iexists _; isplitr; · ipureintro; exact harg8.read_unread _
            iexact H4
          isplitl [H5]
          · iexists _; isplitr; swap; · iexact H5
            ipureintro; exact (read_writes_whole _ _ _ _ _ _).trans (step5_pos i d5 hc1 hw1 hw2 (readAt_whole arg4 harg4 x0 _ _) (readAt_whole arg5 harg5 x1 _ _))
          isplitl [H6]
          · iexists _; isplitr; swap; · iexact H6
            ipureintro; exact (read_writes_cons_upd _ _ _ _ _).trans (step6_of i (chk1 i) k0_hw1 hw1 hw2 (readAt_whole arg4 harg4 x0 _ _) (readAt_whole arg5 harg5 x1 _ _) (readAt_whole arg7 harg7 x3 _ _) (readAt_whole arg8 harg8 x4 _ _) ((read_writes_whole _ _ _ _ _ _).trans (base6_pos i d6 hc0)))
          isplitl [H7]
          · iexists _; isplitr; swap; · iexact H7
            ipureintro; exact step7_neg i (chk2 i) hc3 x0 x1 x2 x4 hw1 hw2 ((read_writes_whole _ _ _ _ _ _).trans (base7_pos i d7 hc0))
          isplitl [HT0]; · iexact HT0
          iexact HT1
      · by_cases hc3 : k0_cond4 (tbM0_0.view.readAt (Elt F) (Rect.unit (s := S21) (k0_off1 i) S1.size (k0_off1_inb i)).toLoadRect (tbl m 0) (Shape.Idx.first (numel1_S1.symm ▸ Nat.one_pos))) (tbM0_1.view.readAt (Elt F) (Rect.unit (s := S21) (k0_off1 i) S1.size (k0_off1_inb i)).toLoadRect (tbl m 1) (Shape.Idx.first (numel1_S1.symm ▸ Nat.one_pos))) = 1#1
        · have hc2 : cond0_2 i := h23.mpr hc1
          sl_exec (disch := first | sl_exact hc0 | sl_exact hc1 | sl_exact hc2 | sl_exact k0_hw1 | sl_exact k0_hw2 | sl_exact hc3)
          sl_step
          iapply Hk
          isplitl [H0]
          · iexists _; isplitr; · ipureintro; exact harg4.read_unread _
            iexact H0
          isplitl [H1]
          · iexists _; isplitr; · ipureintro; exact harg5.read_unread _
            iexact H1
          isplitl [H2]
          · iexists _; isplitr; · ipureintro; exact harg6.read_unread _
            iexact H2
          isplitl [H3]
          · iexists _; isplitr; · ipureintro; exact harg7.read_unread _
            iexact H3
          isplitl [H4]
          · iexists _; isplitr; · ipureintro; exact harg8.read_unread _
            iexact H4
          isplitl [H5]
          · iexists _; isplitr; swap; · iexact H5
            ipureintro; refine (read_writes_whole _ _ _ _ _ _).trans (step5_neg (d := d5) (d' := d5) i hc1 hw1 hw2 (readAt_whole arg4 harg4 x0 _ _) (readAt_whole arg5 harg5 x1 _ _) rfl)
          isplitl [H6]
          · iexists _; isplitr; swap; · iexact H6
            ipureintro; exact (read_writes_cons_upd _ _ _ _ _).trans (step6_of i (chk1 i) k0_hw1 hw1 hw2 (readAt_whole arg4 harg4 x0 _ _) (readAt_whole arg5 harg5 x1 _ _) (readAt_whole arg7 harg7 x3 _ _) (readAt_whole arg8 harg8 x4 _ _) ((read_writes_whole _ _ _ _ _ _).trans (base6_pos i d6 hc0)))
          isplitl [H7]
          · iexists _; isplitr; swap; · iexact H7
            ipureintro; exact (read_writes_cons_upd _ _ _ _ _).trans (step7_of i (chk2 i) k0_hw2 hc3 hw1 hw2 (readAt_whole arg4 harg4 x0 _ _) (readAt_whole arg5 harg5 x1 _ _) (readAt_whole arg6 harg6 x2 _ _) (readAt_whole arg8 harg8 x4 _ _) ((read_writes_whole _ _ _ _ _ _).trans (base7_pos i d7 hc0)))
          isplitl [HT0]; · iexact HT0
          iexact HT1
        · have hc2 : cond0_2 i := h23.mpr hc1
          sl_exec (disch := first | sl_exact hc0 | sl_exact hc1 | sl_exact hc2 | sl_exact k0_hw1 | sl_exact k0_hw2 | sl_exact hc3)
          sl_step
          iapply Hk
          isplitl [H0]
          · iexists _; isplitr; · ipureintro; exact harg4.read_unread _
            iexact H0
          isplitl [H1]
          · iexists _; isplitr; · ipureintro; exact harg5.read_unread _
            iexact H1
          isplitl [H2]
          · iexists _; isplitr; · ipureintro; exact harg6.read_unread _
            iexact H2
          isplitl [H3]
          · iexists _; isplitr; · ipureintro; exact harg7.read_unread _
            iexact H3
          isplitl [H4]
          · iexists _; isplitr; · ipureintro; exact harg8.read_unread _
            iexact H4
          isplitl [H5]
          · iexists _; isplitr; swap; · iexact H5
            ipureintro; refine (read_writes_whole _ _ _ _ _ _).trans (step5_neg (d := d5) (d' := d5) i hc1 hw1 hw2 (readAt_whole arg4 harg4 x0 _ _) (readAt_whole arg5 harg5 x1 _ _) rfl)
          isplitl [H6]
          · iexists _; isplitr; swap; · iexact H6
            ipureintro; exact (read_writes_cons_upd _ _ _ _ _).trans (step6_of i (chk1 i) k0_hw1 hw1 hw2 (readAt_whole arg4 harg4 x0 _ _) (readAt_whole arg5 harg5 x1 _ _) (readAt_whole arg7 harg7 x3 _ _) (readAt_whole arg8 harg8 x4 _ _) ((read_writes_whole _ _ _ _ _ _).trans (base6_pos i d6 hc0)))
          isplitl [H7]
          · iexists _; isplitr; swap; · iexact H7
            ipureintro; exact step7_neg i (chk2 i) hc3 x0 x1 x2 x4 hw1 hw2 ((read_writes_whole _ _ _ _ _ _).trans (base7_pos i d7 hc0))
          isplitl [HT0]; · iexact HT0
          iexact HT1
    · by_cases hc1 : cond0_1 i
      · by_cases hc3 : k0_cond4 (tbM0_0.view.readAt (Elt F) (Rect.unit (s := S21) (k0_off1 i) S1.size (k0_off1_inb i)).toLoadRect (tbl m 0) (Shape.Idx.first (numel1_S1.symm ▸ Nat.one_pos))) (tbM0_1.view.readAt (Elt F) (Rect.unit (s := S21) (k0_off1 i) S1.size (k0_off1_inb i)).toLoadRect (tbl m 1) (Shape.Idx.first (numel1_S1.symm ▸ Nat.one_pos))) = 1#1
        · have hc2 : ¬ cond0_2 i := fun h => h23.mp h hc1
          sl_exec (disch := first | sl_exact hc0 | sl_exact hc1 | sl_exact hc2 | sl_exact k0_hw1 | sl_exact k0_hw2 | sl_exact hc3)
          sl_step
          iapply Hk
          isplitl [H0]
          · iexists _; isplitr; · ipureintro; exact harg4.read_unread _
            iexact H0
          isplitl [H1]
          · iexists _; isplitr; · ipureintro; exact harg5.read_unread _
            iexact H1
          isplitl [H2]
          · iexists _; isplitr; · ipureintro; exact harg6.read_unread _
            iexact H2
          isplitl [H3]
          · iexists _; isplitr; · ipureintro; exact harg7.read_unread _
            iexact H3
          isplitl [H4]
          · iexists _; isplitr; · ipureintro; exact harg8.read_unread _
            iexact H4
          isplitl [H5]
          · iexists _; isplitr; swap; · iexact H5
            ipureintro; exact (read_writes_whole _ _ _ _ _ _).trans (step5_pos i d5 hc1 hw1 hw2 (readAt_whole arg4 harg4 x0 _ _) (readAt_whole arg5 harg5 x1 _ _))
          isplitl [H6]
          · iexists _; isplitr; swap; · iexact H6
            ipureintro; exact (read_writes_cons_upd _ _ _ _ _).trans (step6_of i (chk1 i) k0_hw1 hw1 hw2 (readAt_whole arg4 harg4 x0 _ _) (readAt_whole arg5 harg5 x1 _ _) (readAt_whole arg7 harg7 x3 _ _) (readAt_whole arg8 harg8 x4 _ _) (hf6.trans (base6_neg i d6 hc0)))
          isplitl [H7]
          · iexists _; isplitr; swap; · iexact H7
            ipureintro; exact (read_writes_cons_upd _ _ _ _ _).trans (step7_of i (chk2 i) k0_hw2 hc3 hw1 hw2 (readAt_whole arg4 harg4 x0 _ _) (readAt_whole arg5 harg5 x1 _ _) (readAt_whole arg6 harg6 x2 _ _) (readAt_whole arg8 harg8 x4 _ _) (hf7.trans (base7_neg i d7 hc0)))
          isplitl [HT0]; · iexact HT0
          iexact HT1
        · have hc2 : ¬ cond0_2 i := fun h => h23.mp h hc1
          sl_exec (disch := first | sl_exact hc0 | sl_exact hc1 | sl_exact hc2 | sl_exact k0_hw1 | sl_exact k0_hw2 | sl_exact hc3)
          sl_step
          iapply Hk
          isplitl [H0]
          · iexists _; isplitr; · ipureintro; exact harg4.read_unread _
            iexact H0
          isplitl [H1]
          · iexists _; isplitr; · ipureintro; exact harg5.read_unread _
            iexact H1
          isplitl [H2]
          · iexists _; isplitr; · ipureintro; exact harg6.read_unread _
            iexact H2
          isplitl [H3]
          · iexists _; isplitr; · ipureintro; exact harg7.read_unread _
            iexact H3
          isplitl [H4]
          · iexists _; isplitr; · ipureintro; exact harg8.read_unread _
            iexact H4
          isplitl [H5]
          · iexists _; isplitr; swap; · iexact H5
            ipureintro; exact (read_writes_whole _ _ _ _ _ _).trans (step5_pos i d5 hc1 hw1 hw2 (readAt_whole arg4 harg4 x0 _ _) (readAt_whole arg5 harg5 x1 _ _))
          isplitl [H6]
          · iexists _; isplitr; swap; · iexact H6
            ipureintro; exact (read_writes_cons_upd _ _ _ _ _).trans (step6_of i (chk1 i) k0_hw1 hw1 hw2 (readAt_whole arg4 harg4 x0 _ _) (readAt_whole arg5 harg5 x1 _ _) (readAt_whole arg7 harg7 x3 _ _) (readAt_whole arg8 harg8 x4 _ _) (hf6.trans (base6_neg i d6 hc0)))
          isplitl [H7]
          · iexists _; isplitr; swap; · iexact H7
            ipureintro; exact step7_neg i (chk2 i) hc3 x0 x1 x2 x4 hw1 hw2 (hf7.trans (base7_neg i d7 hc0))
          isplitl [HT0]; · iexact HT0
          iexact HT1
      · by_cases hc3 : k0_cond4 (tbM0_0.view.readAt (Elt F) (Rect.unit (s := S21) (k0_off1 i) S1.size (k0_off1_inb i)).toLoadRect (tbl m 0) (Shape.Idx.first (numel1_S1.symm ▸ Nat.one_pos))) (tbM0_1.view.readAt (Elt F) (Rect.unit (s := S21) (k0_off1 i) S1.size (k0_off1_inb i)).toLoadRect (tbl m 1) (Shape.Idx.first (numel1_S1.symm ▸ Nat.one_pos))) = 1#1
        · have hc2 : cond0_2 i := h23.mpr hc1
          sl_exec (disch := first | sl_exact hc0 | sl_exact hc1 | sl_exact hc2 | sl_exact k0_hw1 | sl_exact k0_hw2 | sl_exact hc3)
          sl_step
          iapply Hk
          isplitl [H0]
          · iexists _; isplitr; · ipureintro; exact harg4.read_unread _
            iexact H0
          isplitl [H1]
          · iexists _; isplitr; · ipureintro; exact harg5.read_unread _
            iexact H1
          isplitl [H2]
          · iexists _; isplitr; · ipureintro; exact harg6.read_unread _
            iexact H2
          isplitl [H3]
          · iexists _; isplitr; · ipureintro; exact harg7.read_unread _
            iexact H3
          isplitl [H4]
          · iexists _; isplitr; · ipureintro; exact harg8.read_unread _
            iexact H4
          isplitl [H5]
          · iexists _; isplitr; swap; · iexact H5
            ipureintro; refine (read_writes_whole _ _ _ _ _ _).trans (step5_neg (d := d5) (d' := d5) i hc1 hw1 hw2 (readAt_whole arg4 harg4 x0 _ _) (readAt_whole arg5 harg5 x1 _ _) rfl)
          isplitl [H6]
          · iexists _; isplitr; swap; · iexact H6
            ipureintro; exact (read_writes_cons_upd _ _ _ _ _).trans (step6_of i (chk1 i) k0_hw1 hw1 hw2 (readAt_whole arg4 harg4 x0 _ _) (readAt_whole arg5 harg5 x1 _ _) (readAt_whole arg7 harg7 x3 _ _) (readAt_whole arg8 harg8 x4 _ _) (hf6.trans (base6_neg i d6 hc0)))
          isplitl [H7]
          · iexists _; isplitr; swap; · iexact H7
            ipureintro; exact (read_writes_cons_upd _ _ _ _ _).trans (step7_of i (chk2 i) k0_hw2 hc3 hw1 hw2 (readAt_whole arg4 harg4 x0 _ _) (readAt_whole arg5 harg5 x1 _ _) (readAt_whole arg6 harg6 x2 _ _) (readAt_whole arg8 harg8 x4 _ _) (hf7.trans (base7_neg i d7 hc0)))
          isplitl [HT0]; · iexact HT0
          iexact HT1
        · have hc2 : cond0_2 i := h23.mpr hc1
          sl_exec (disch := first | sl_exact hc0 | sl_exact hc1 | sl_exact hc2 | sl_exact k0_hw1 | sl_exact k0_hw2 | sl_exact hc3)
          sl_step
          iapply Hk
          isplitl [H0]
          · iexists _; isplitr; · ipureintro; exact harg4.read_unread _
            iexact H0
          isplitl [H1]
          · iexists _; isplitr; · ipureintro; exact harg5.read_unread _
            iexact H1
          isplitl [H2]
          · iexists _; isplitr; · ipureintro; exact harg6.read_unread _
            iexact H2
          isplitl [H3]
          · iexists _; isplitr; · ipureintro; exact harg7.read_unread _
            iexact H3
          isplitl [H4]
          · iexists _; isplitr; · ipureintro; exact harg8.read_unread _
            iexact H4
          isplitl [H5]
          · iexists _; isplitr; swap; · iexact H5
            ipureintro; refine (read_writes_whole _ _ _ _ _ _).trans (step5_neg (d := d5) (d' := d5) i hc1 hw1 hw2 (readAt_whole arg4 harg4 x0 _ _) (readAt_whole arg5 harg5 x1 _ _) rfl)
          isplitl [H6]
          · iexists _; isplitr; swap; · iexact H6
            ipureintro; exact (read_writes_cons_upd _ _ _ _ _).trans (step6_of i (chk1 i) k0_hw1 hw1 hw2 (readAt_whole arg4 harg4 x0 _ _) (readAt_whole arg5 harg5 x1 _ _) (readAt_whole arg7 harg7 x3 _ _) (readAt_whole arg8 harg8 x4 _ _) (hf6.trans (base6_neg i d6 hc0)))
          isplitl [H7]
          · iexists _; isplitr; swap; · iexact H7
            ipureintro; exact step7_neg i (chk2 i) hc3 x0 x1 x2 x4 hw1 hw2 (hf7.trans (base7_neg i d7 hc0))
          isplitl [HT0]; · iexact HT0
          iexact HT1

end Cert.KernelIdeal.Gen

end
-- ==== Proof.KernelIdeal.Frame.lean ====
/- The whole launch: what the output arrays hold after the last grid point, and that the arguments are unchanged and every counter ends at zero. -/
module

public import proofs.«01_k».proof.Proof.KernelIdeal.Body
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the outputs' buffers hold point by point -/

/-- The grid point of number `n` (the 84 points in the order the launch runs them). -/
def pt (hO : Ok m) (n : ℕ) : Fin (cfgM m hO).N := ⟨n % 84, lt_of_lt_of_eq (Nat.mod_lt _ (by omega)) (show 84 = (cfgM m hO).N from N_0.symm)⟩

theorem pt_val (hO : Ok m) (t : Fin (cfgM m hO).N) : pt m hO t.val = t :=
  Fin.ext (Nat.mod_eq_of_lt (lt_of_lt_of_eq t.isLt (show (cfgM m hO).N = 84 from N_0)))

/-- The step of each output at point `t`, from the blocks the point stages. -/
def at5 (hO : Ok m) (c : Dev nD) (t : Fin (cfgM m hO).N) (d : Vec F S1x512x512 .f32) : Vec F S1x512x512 .f32 :=
  step5 (grid0.coords t) (rowT (grid0.coords t)) (colT (grid0.coords t)) (iblk m hO c 0 t) (iblk m hO c 1 t) d
def at6 (hO : Ok m) (c : Dev nD) (t : Fin (cfgM m hO).N) (d : Vec F S3072x256 .f32) : Vec F S3072x256 .f32 :=
  step6 (grid0.coords t) (rowT (grid0.coords t)) (colT (grid0.coords t)) (chk1 (grid0.coords t)) (iblk m hO c 0 t) (iblk m hO c 1 t) (iblk m hO c 3 t) (iblk m hO c 4 t) d
def at7 (hO : Ok m) (c : Dev nD) (t : Fin (cfgM m hO).N) (d : Vec F S256x3072 .f32) : Vec F S256x3072 .f32 :=
  step7 (grid0.coords t) (rowT (grid0.coords t)) (colT (grid0.coords t)) (chk2 (grid0.coords t)) (iblk m hO c 0 t) (iblk m hO c 1 t) (iblk m hO c 2 t) (iblk m hO c 4 t) d

/-- What the buffer of the merged matrix' tile holds after point `n`. -/
def acc5 (hO : Ok m) (c : Dev nD) : ℕ → Vec F S1x512x512 .f32
  | 0 => at5 m hO c (pt m hO 0) (fun _ => Scalar.ofBits .f32 0x00000000#32)
  | n + 1 => at5 m hO c (pt m hO (n + 1)) (acc5 hO c n)
/-- What the buffer of the right-hand side accumulator holds after point `n`. -/
def acc6 (hO : Ok m) (c : Dev nD) : ℕ → Vec F S3072x256 .f32
  | 0 => at6 m hO c (pt m hO 0) k0_pay3
  | n + 1 => at6 m hO c (pt m hO (n + 1)) (acc6 hO c n)
/-- What the buffer of the transposed accumulator holds after point `n`. -/
def acc7 (hO : Ok m) (c : Dev nD) : ℕ → Vec F S256x3072 .f32
  | 0 => at7 m hO c (pt m hO 0) k0_pay4
  | n + 1 => at7 m hO c (pt m hO (n + 1)) (acc7 hO c n)

theorem at5_first (hO : Ok m) (c : Dev nD) (t : Fin (cfgM m hO).N) (h : t.val % 4 = 0) (d d' : Vec F S1x512x512 .f32) : at5 m hO c t d = at5 m hO c t d' := by
  unfold at5 step5; rw [if_pos ((hcond0_1 t).mpr h), if_pos ((hcond0_1 t).mpr h)]
theorem at6_first (hO : Ok m) (c : Dev nD) (t : Fin (cfgM m hO).N) (h : t.val % 84 = 0) (d d' : Vec F S3072x256 .f32) : at6 m hO c t d = at6 m hO c t d' := by
  unfold at6 step6 base6; rw [if_pos ((hcond0_0 t).mpr h), if_pos ((hcond0_0 t).mpr h)]
theorem at7_first (hO : Ok m) (c : Dev nD) (t : Fin (cfgM m hO).N) (h : t.val % 84 = 0) (d d' : Vec F S256x3072 .f32) : at7 m hO c t d = at7 m hO c t d' := by
  unfold at7 step7 base7; rw [if_pos ((hcond0_0 t).mpr h), if_pos ((hcond0_0 t).mpr h)]
theorem at7_idle (hO : Ok m) (c : Dev nD) (t : Fin (cfgM m hO).N) (h : ¬ t.val % 84 = 0) (h3 : ¬ cond0_3 (grid0.coords t)) (d : Vec F S256x3072 .f32) : at7 m hO c t d = d := by
  unfold at7 step7 base7; rw [dif_neg h3, if_neg (fun h' => h ((hcond0_0 t).mp h'))]

/-! ## The pipeline's proof data -/

/-- The proof data of the one pipeline on core `c`: the arrays as the region finds them (`V`); after the body at
    point `t` each input's buffer at its block and the outputs at their accumulators; the invariant the class's
    (Lib/Pipeline/Frame.lean `ΦA`: the scoped rest and the generator register) and the tables' halves (`ΦT`); nothing owed;
    each input's share of its array
    (`Pipeline.shareOf`: the full share of an array several windows stage, dealt among them). -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => acc5 m hO c t.val
    | ⟨6, _⟩ => acc6 m hO c t.val
    | ⟨7, _⟩ => acc7 m hO c t.val
  Φ _ := iprop(Pipeline.ΦA spec0 c ∗ Pipeline.ΦT pre0 (tbl m) c)
  q w := Pipeline.shareOf spec0 w
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = acc5 m hO c t.val := by dsimp only [dats]; try rfl
theorem after0_6 (hO : Ok m) (c : Dev nD) (t : Fin (cfgM m hO).N) : (dats m hO 0 c).after 6 t = acc6 m hO c t.val := by dsimp only [dats]; try rfl
theorem after0_7 (hO : Ok m) (c : Dev nD) (t : Fin (cfgM m hO).N) : (dats m hO 0 c).after 7 t = acc7 m hO c t.val := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d

/-! ## What the outputs' buffers hold when a point begins -/

theorem idle_5 (hO : Ok m) (t : Fin (cfgM m hO).N) : (cfgM m hO).idle 5 ((cfgM m hO).grid.coords t) = false := by
  have h := hcond0_1 t
  have h' := hcond0_2 t
  show (!(k0_cond2 (grid0.coords t) == 1#1) && !(k0_cond3 (grid0.coords t) == 1#1)) = false
  by_cases h4 : t.val % 4 = 0
  · rw [show k0_cond2 (grid0.coords t) = 1#1 from h.mpr h4]; rfl
  · rw [show k0_cond3 (grid0.coords t) = 1#1 from h'.mpr (by omega)]; rw [Bool.and_eq_false_iff]; right; rfl
theorem idle_6 (hO : Ok m) (t : Fin (cfgM m hO).N) : (cfgM m hO).idle 6 ((cfgM m hO).grid.coords t) = false := rfl
theorem idle_7 (hO : Ok m) (t : Fin (cfgM m hO).N) : (cfgM m hO).idle 7 ((cfgM m hO).grid.coords t) = (!(k0_cond1 (grid0.coords t) == 1#1) && !(k0_cond4 (rowT (grid0.coords t)) (colT (grid0.coords t)) == 1#1)) := by
  have h : (cfgM m hO).idle 7 ((cfgM m hO).grid.coords t) = (!(k0_cond1 (grid0.coords t) == 1#1) && !(k0_cond4 ((tbl m).atD 0 (k0_off1 (grid0.coords t))) ((tbl m).atD 1 (k0_off1 (grid0.coords t))) == 1#1)) := rfl
  rw [h, atD_0, atD_1]
theorem idle_7_iff (hO : Ok m) (t : Fin (cfgM m hO).N) : (cfgM m hO).idle 7 ((cfgM m hO).grid.coords t) = true ↔ ¬ t.val % 84 = 0 ∧ ¬ cond0_3 (grid0.coords t) := by
  rw [idle_7]
  have h0 := hcond0_0 t
  simp only [Bool.and_eq_true, Bool.not_eq_true', beq_eq_false_iff_ne, ne_eq]
  exact and_congr (not_congr h0) Iff.rfl

theorem before0_5 (hO : Ok m) (c : Dev nD) (t : Fin (cfgM m hO).N) (h : ¬ t.val % 4 = 0) (d) : (dats m hO 0 c).before 5 t d = acc5 m hO c (t.val - 1) := by
  have h0 : t.val ≠ 0 := by omega
  rw [Dat.before_of_pos _ 5 t h0 rfl d]
  rw [if_neg (fun hf => by have := (flush0_5 (adm m hO) _).mp hf; simp only at this; omega)]
  unfold Dat.left
  rw [idle_5]
  exact after0_5 m hO c _
theorem before0_6 (hO : Ok m) (c : Dev nD) (t : Fin (cfgM m hO).N) (h : ¬ t.val % 84 = 0) (d) : (dats m hO 0 c).before 6 t d = acc6 m hO c (t.val - 1) := by
  have h0 : t.val ≠ 0 := by omega
  have hN : t.val < 84 := lt_of_lt_of_eq t.isLt (show (cfgM m hO).N = 84 from N_0)
  rw [Dat.before_of_pos _ 6 t h0 rfl d]
  rw [if_neg (fun hf => by have := (flush0_6 (adm m hO) _).mp hf; simp only at this; omega)]
  unfold Dat.left
  rw [idle_6]
  exact after0_6 m hO c _

theorem acc7_succ (hO : Ok m) (c : Dev nD) (t : Fin (cfgM m hO).N) (h : ¬ t.val = 0) : acc7 m hO c t.val = at7 m hO c t (acc7 m hO c (t.val - 1)) := by
  obtain ⟨n, hn⟩ : ∃ n, t.val = n + 1 := ⟨t.val - 1, by omega⟩
  have := pt_val m hO t
  rw [hn] at this ⊢
  show at7 m hO c (pt m hO (n + 1)) _ = _
  rw [this]; rfl
theorem acc6_succ (hO : Ok m) (c : Dev nD) (t : Fin (cfgM m hO).N) (h : ¬ t.val = 0) : acc6 m hO c t.val = at6 m hO c t (acc6 m hO c (t.val - 1)) := by
  obtain ⟨n, hn⟩ : ∃ n, t.val = n + 1 := ⟨t.val - 1, by omega⟩
  have := pt_val m hO t
  rw [hn] at this ⊢
  show at6 m hO c (pt m hO (n + 1)) _ = _
  rw [this]; rfl
theorem acc5_succ (hO : Ok m) (c : Dev nD) (t : Fin (cfgM m hO).N) (h : ¬ t.val = 0) : acc5 m hO c t.val = at5 m hO c t (acc5 m hO c (t.val - 1)) := by
  obtain ⟨n, hn⟩ : ∃ n, t.val = n + 1 := ⟨t.val - 1, by omega⟩
  have := pt_val m hO t
  rw [hn] at this ⊢
  show at5 m hO c (pt m hO (n + 1)) _ = _
  rw [this]; rfl

theorem before0_7_aux (hO : Ok m) (c : Dev nD) (d) : ∀ n : ℕ, ∀ t : Fin (cfgM m hO).N, t.val = n + 1 → (dats m hO 0 c).before 7 t d = acc7 m hO c n := by
  intro n
  induction n with
  | zero =>
    intro t ht
    rw [Dat.before_of_pos _ 7 t (by omega) rfl d]
    rw [if_neg (fun hf => by have := (flush0_7 (adm m hO) _).mp hf; simp only at this; omega)]
    unfold Dat.left
    rw [show (cfgM m hO).idle 7 ((cfgM m hO).grid.coords ⟨t.val - 1, Nat.lt_of_le_of_lt (Nat.sub_le _ _) t.isLt⟩) = false from by
      rw [Bool.eq_false_iff]; intro hi
      exact ((idle_7_iff m hO _).mp hi).1 (by simp only; omega)]
    refine (after0_7 m hO c _).trans ?_
    show acc7 m hO c (t.val - 1) = _
    rw [ht]
  | succ n ih =>
    intro t ht
    have hN : t.val < 84 := lt_of_lt_of_eq t.isLt (show (cfgM m hO).N = 84 from N_0)
    rw [Dat.before_of_pos _ 7 t (by omega) rfl d]
    rw [if_neg (fun hf => by have := (flush0_7 (adm m hO) _).mp hf; simp only at this; omega)]
    unfold Dat.left
    have e : t.val - 1 = n + 1 := by omega
    cases hi : (cfgM m hO).idle 7 ((cfgM m hO).grid.coords ⟨t.val - 1, Nat.lt_of_le_of_lt (Nat.sub_le _ _) t.isLt⟩)
    · refine (after0_7 m hO c _).trans ?_
      show acc7 m hO c (t.val - 1) = _
      rw [e]
    · have hi' := (idle_7_iff m hO _).mp hi
      refine (ih ⟨t.val - 1, _⟩ e).trans ?_
      have := acc7_succ m hO c ⟨t.val - 1, Nat.lt_of_le_of_lt (Nat.sub_le _ _) t.isLt⟩ (by simp only; omega)
      rw [at7_idle m hO c _ hi'.1 hi'.2] at this
      simp only [e] at this
      exact this.symm
theorem before0_7 (hO : Ok m) (c : Dev nD) (t : Fin (cfgM m hO).N) (h : ¬ t.val % 84 = 0) (d) : (dats m hO 0 c).before 7 t d = acc7 m hO c (t.val - 1) :=
  before0_7_aux m hO c d (t.val - 1) t (by omega)

/-- A point's step from what the buffer holds when the point begins is the accumulator after the point. -/
theorem step_before5 (hO : Ok m) (c : Dev nD) (t : Fin (cfgM m hO).N) (d) : at5 m hO c t ((dats m hO 0 c).before 5 t d) = acc5 m hO c t.val := by
  by_cases h : t.val % 4 = 0
  · by_cases h0 : t.val = 0
    · have := pt_val m hO t
      rw [h0] at this ⊢
      refine Eq.trans ?_ (congrArg (fun t => at5 m hO c t _) this.symm)
      exact at5_first m hO c t h _ _
    · rw [acc5_succ m hO c t h0]; exact at5_first m hO c t h _ _
  · rw [before0_5 m hO c t h, acc5_succ m hO c t (by omega)]
theorem step_before6 (hO : Ok m) (c : Dev nD) (t : Fin (cfgM m hO).N) (d) : at6 m hO c t ((dats m hO 0 c).before 6 t d) = acc6 m hO c t.val := by
  have hN : t.val < 84 := lt_of_lt_of_eq t.isLt (show (cfgM m hO).N = 84 from N_0)
  by_cases h : t.val % 84 = 0
  · have h0 : t.val = 0 := by omega
    have := pt_val m hO t
    rw [h0] at this ⊢
    refine Eq.trans ?_ (congrArg (fun t => at6 m hO c t _) this.symm)
    exact at6_first m hO c t h _ _
  · rw [before0_6 m hO c t h, acc6_succ m hO c t (by omega)]
theorem step_before7 (hO : Ok m) (c : Dev nD) (t : Fin (cfgM m hO).N) (d) : at7 m hO c t ((dats m hO 0 c).before 7 t d) = acc7 m hO c t.val := by
  have hN : t.val < 84 := lt_of_lt_of_eq t.isLt (show (cfgM m hO).N = 84 from N_0)
  by_cases h : t.val % 84 = 0
  · have h0 : t.val = 0 := by omega
    have := pt_val m hO t
    rw [h0] at this ⊢
    refine Eq.trans ?_ (congrArg (fun t => at7 m hO c t _) this.symm)
    exact at7_first m hO c t h _ _
  · rw [before0_7 m hO c t h, acc7_succ m hO c t (by omega)]

/-! ## The body obligation, at a generic point -/

/-- What the body is called with at point `t`, the windows one by one, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d)))

/-- and what it returns. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t
    ∗ (dats m hO 0 c).leavesExact 6 t
    ∗ (dats m hO 0 c).leavesExact 7 t)

/-- What the transposed accumulator's buffer is left at: where the point leaves it alone, what it held. -/
theorem leaves7 (hO : Ok m) (c : Dev nD) (t : Fin (cfgM m hO).N) (d) :
    owns (c : Thread nD τ) (ms0_7 m hO t) fullShare (at7 m hO c t ((dats m hO 0 c).before 7 t d)) ⊢ ((dats m hO 0 c).leavesExact 7 t : sProp 𝕄) := by
  have h7 := step_before7 m hO c t d
  cases hi : (cfgM m hO).idle 7 ((cfgM m hO).grid.coords t)
  · rw [show (dats m hO 0 c).leavesExact 7 t = owns (c : Thread nD τ) (ms0_7 m hO t) fullShare ((dats m hO 0 c).after 7 t) from by
      unfold Dat.leavesExact; rw [hi]; rfl, after0_7, h7]
  · have hi' := (idle_7_iff m hO _).mp hi
    cases hf : ((cfgM m hO).win 7).flush t
    · rw [show (dats m hO 0 c).leavesExact 7 t = iprop(∃ d, owns (c : Thread nD τ) (ms0_7 m hO t) fullShare ((dats m hO 0 c).before 7 t d)) from by
        unfold Dat.leavesExact; rw [hi, hf]; rfl]
      have key : ∀ X : Vec F S256x3072 .f32, X = (dats m hO 0 c).before 7 t d →
          (owns (c : Thread nD τ) (ms0_7 m hO t) fullShare X ⊢ (iprop(∃ d, owns (c : Thread nD τ) (ms0_7 m hO t) fullShare ((dats m hO 0 c).before 7 t d)) : sProp 𝕄)) := by
        intro X hX; subst hX; iintro H; iexists d; iexact H
      exact key _ (at7_idle m hO c t hi'.1 hi'.2 _)
    · rw [show (dats m hO 0 c).leavesExact 7 t = owns (c : Thread nD τ) (ms0_7 m hO t) fullShare ((dats m hO 0 c).after 7 t) from by
        unfold Dat.leavesExact; rw [hi, hf]; rfl, after0_7, h7]

set_option maxHeartbeats 2400000 in
/-- The body at any point: the inputs' buffers hold their blocks, and the outputs' buffers are left one step further. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4]
  rw [show (dats m hO 0 c).Φ t.succ = (dats m hO 0 c).Φ t.castSucc from rfl,
    show (dats m hO 0 c).owesAt () t.succ = (dats m hO 0 c).owesAt () t.castSucc from rfl]
  rw [show (dats m hO 0 c).Φ t.castSucc = iprop(Pipeline.ΦA spec0 c ∗ Pipeline.ΦT pre0 (tbl m) c) from rfl, PhiT0_eq]
  have h23 : cond0_2 (grid0.coords t) ↔ ¬ cond0_1 (grid0.coords t) := by
    rw [hcond0_2 t, hcond0_1 t]; omega
  rw [show (dats m hO 0 c).leavesExact 0 t = owns (c : Thread nD τ) (ms0_0 m hO t) fullShare ((dats m hO 0 c).after 0 t) from by
    unfold Dat.leavesExact; rw [liveAt0_0 m hO t]; try rfl, after0_0]
  rw [show (dats m hO 0 c).leavesExact 1 t = owns (c : Thread nD τ) (ms0_1 m hO t) fullShare ((dats m hO 0 c).after 1 t) from by
    unfold Dat.leavesExact; rw [liveAt0_1 m hO t]; try rfl, after0_1]
  rw [show (dats m hO 0 c).leavesExact 2 t = owns (c : Thread nD τ) (ms0_2 m hO t) fullShare ((dats m hO 0 c).after 2 t) from by
    unfold Dat.leavesExact; rw [liveAt0_2 m hO t]; try rfl, after0_2]
  rw [show (dats m hO 0 c).leavesExact 3 t = owns (c : Thread nD τ) (ms0_3 m hO t) fullShare ((dats m hO 0 c).after 3 t) from by
    unfold Dat.leavesExact; rw [liveAt0_3 m hO t]; try rfl, after0_3]
  rw [show (dats m hO 0 c).leavesExact 4 t = owns (c : Thread nD τ) (ms0_4 m hO t) fullShare ((dats m hO 0 c).after 4 t) from by
    unfold Dat.leavesExact; rw [liveAt0_4 m hO t]; try rfl, after0_4]
  rw [show (dats m hO 0 c).leavesExact 5 t = owns (c : Thread nD τ) (ms0_5 m hO t) fullShare ((dats m hO 0 c).after 5 t) from by
    unfold Dat.leavesExact; rw [idle_5 m hO t]; try rfl, after0_5]
  rw [show (dats m hO 0 c).leavesExact 6 t = owns (c : Thread nD τ) (ms0_6 m hO t) fullShare ((dats m hO 0 c).after 6 t) from by
    unfold Dat.leavesExact; rw [idle_6 m hO t]; try rfl, after0_6]
  iintro ⟨⟨HΦ, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
  have run := run_body m c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) h23 (iblk m hO c 0 t) (iblk m hO c 1 t) (iblk m hO c 2 t) (iblk m hO c 3 t) (iblk m hO c 4 t) ((dats m hO 0 c).before 5 t d5) ((dats m hO 0 c).before 6 t d6) ((dats m hO 0 c).before 7 t d7) Set.univ
  iapply (run _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HT0]; · iexact HT0
  isplitl [HT1]; · iexact HT1
  iintro ⟨H0, H1, H2, H3, H4, H5, H6, H7, HT0, HT1⟩
  isplitl [HΦ HT0 HT1]
  · isplitl [HΦ]
    · iexact HΦ
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  isplitl [H5]
  · rw [← step_before5 m hO c t d5]; iexact H5
  isplitl [H6]
  · rw [← step_before6 m hO c t d6]; iexact H6
  iapply (leaves7 m hO c t d7); iexact H7

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-! ## The run and the frame -/

-- the implicit arguments are found by unifying the conclusion with this one, which takes unfolding plain definitions in
-- a metavariable's type
set_option backward.isDefEq.respectTransparency.types false in
/-- The launch: every final state has each output array at what the write-backs of its accumulator leave, every other buffer
    at its contents when the launch begins, and every semaphore counter at zero. -/
theorem run_main_quiescent (hO : Ok m) : θ_run defs (onTc (τ := τ) (main (F := F))) (s₀ m ρ) (fun r => Pipeline.FramePost (Pipeline.pin pcfgs fun _ => adm m hO) (dats m hO) 0 (V m) r ∧ r.2.sem = fun _ => 0) :=
  Pipeline.θ_run_frameP_shared (Q' := _) pcfgs (fun _ => adm m hO) (dats m hO) (0 : Fin 1) launch₀0 defs₀ Variants.none m ρ main
    (hbody := fun c => (body_obligation m hO c).loose) (hq := fun _ _ _ => rfl)
    (howed := fun _ _ => rfl) (V := V m) (hmain := hmain m Variants.none) (hA := A_eq m hO) (hpf := V_pre m) (hΦ := fun _ _ => rfl)
    (hQ' := fun _ h => h)

/-- At any values and from any memory whose counters are zero: every run of the program ends, with the argument arrays as
    they were and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c =>
      ⟨((h.1 c).1 1).trans ((Dat.arrAt_in (dats m (ok m) 0 c) 1 rfl _).trans (V_main_arg0 m c)),
       ((h.1 c).1 3).trans ((Dat.arrAt_in (dats m (ok m) 0 c) 3 rfl _).trans (V_main_arg1 m c)),
       ((h.1 c).2 main_arg2 (by decide : main_arg2 ∈ Pipeline.restRefs sig spec0)).trans (V_main_arg2 m c)⟩, h.2⟩)
    (run_main_quiescent m ρ (ok m))

end Cert.KernelIdeal.Gen

end
-- ==== Proof.Value.Math.lean ====
/- The arithmetic of the value claim, over the extended reals: the four Gram matrices, the tile sums of the kernel and the
   whole-matrix sums of the reference, with no program in sight. -/
module

public import Idealize.ShloMosaic.PureOps.Ideal
public import Idealize.ShloMosaic.Lib.ValueIdx

@[expose] public section

noncomputable section

namespace Cert.Math

open scoped BigOperators

/-- The literal `0.9` as the f32 it is rounded to, and what is left of one. -/
def aR : ℝ := 15099494 / 16777216
def bR : ℝ := 1677722 / 16777216

theorem aR_nonneg : 0 ≤ aR := by unfold aR; norm_num
theorem bR_nonneg : 0 ≤ bR := by unfold bR; norm_num
theorem aR_add_bR : aR + bR = 1 := by unfold aR bR; norm_num

/-- Element `(i, j)` of the Gram matrix of batch `k`. -/
def gram (X : Fin 4 → Fin 4096 → Fin 3072 → EReal) (k : Fin 4) (i j : Fin 3072) : EReal := ∑ s, X k s i * X k s j

theorem gram_symm (X : Fin 4 → Fin 4096 → Fin 3072 → EReal) (k : Fin 4) (i j : Fin 3072) : gram X k i j = gram X k j i :=
  Finset.sum_congr rfl fun s _ => mul_comm _ _

/-- A sum of real numbers is a real number. -/
theorem sum_coe {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- With finite activations each element of a Gram matrix is a real number. -/
theorem gram_real (X : Fin 4 → Fin 4096 → Fin 3072 → EReal) (hX : ∀ k s i, ∃ r : ℝ, X k s i = r) :
    ∃ γ : Fin 4 → Fin 3072 → Fin 3072 → ℝ, ∀ k i j, gram X k i j = γ k i j := by
  choose r hr using hX
  refine ⟨fun k i j => ∑ s, r k s i * r k s j, fun k i j => ?_⟩
  unfold gram
  rw [← sum_coe]
  exact Finset.sum_congr rfl fun s _ => by rw [hr, hr, EReal.coe_mul]

/-- The kernel's scale of element `(i, j)`: the mean, times `0.9` off the diagonal. -/
def scl (i j : Fin 3072) : EReal := if i = j then ((1 / 4096 : ℝ) : EReal) else ((aR / 4096 : ℝ) : EReal)

/-- The kernel's scaled Gram element. -/
def hgram (X : Fin 4 → Fin 4096 → Fin 3072 → EReal) (k : Fin 4) (i j : Fin 3072) : EReal := gram X k i j * scl i j

/-- The reference's Gram element: the mean over the sequence. -/
def ggram (X : Fin 4 → Fin 4096 → Fin 3072 → EReal) (k : Fin 4) (i j : Fin 3072) : EReal :=
  gram X k i j * ((4096 : ℝ) : EReal)⁻¹

theorem ggram_symm (X : Fin 4 → Fin 4096 → Fin 3072 → EReal) (k : Fin 4) (i j : Fin 3072) : ggram X k i j = ggram X k j i := by
  unfold ggram; rw [gram_symm]

theorem mul_sum_coe {ι : Type} (s : Finset ι) (r : ℝ) (hr : 0 ≤ r) (f : ι → EReal) :
    (r : EReal) * ∑ i ∈ s, f i = ∑ i ∈ s, (r : EReal) * f i := by
  classical
  induction s using Finset.induction_on with
  | empty => simp
  | insert a s ha ih =>
    rw [Finset.sum_insert ha, Finset.sum_insert ha, ← ih,
      EReal.left_distrib_of_nonneg_of_ne_top (by exact_mod_cast hr) (EReal.coe_ne_top r)]

section
variable (X : Fin 4 → Fin 4096 → Fin 3072 → EReal) (hX : ∀ k s i, ∃ r : ℝ, X k s i = r)
include hX

theorem hgram_real : ∃ γ : Fin 4 → Fin 3072 → Fin 3072 → ℝ, ∀ k i j, hgram X k i j = γ k i j := by
  obtain ⟨γ, hγ⟩ := gram_real X hX
  refine ⟨fun k i j => γ k i j * (if i = j then 1 / 4096 else aR / 4096), fun k i j => ?_⟩
  unfold hgram scl
  rw [hγ, EReal.coe_mul]
  split <;> rfl

/-- A scaled Gram element is finite, so its difference with itself is zero. -/
theorem hgram_sub (k : Fin 4) (i j : Fin 3072) : hgram X k i j - hgram X k i j = 0 := by
  obtain ⟨γ, hγ⟩ := hgram_real X hX
  rw [hγ, ← EReal.coe_sub, sub_self, EReal.coe_zero]

theorem ggram_real : ∃ γ : Fin 4 → Fin 3072 → Fin 3072 → ℝ, (∀ k i j, ggram X k i j = γ k i j)
    ∧ ∀ k i j, hgram X k i j = if i = j then ((γ k i j : ℝ) : EReal) else ((aR * γ k i j : ℝ) : EReal) := by
  obtain ⟨γ, hγ⟩ := gram_real X hX
  refine ⟨fun k i j => γ k i j * (4096 : ℝ)⁻¹, fun k i j => ?_, fun k i j => ?_⟩
  · unfold ggram; rw [hγ, ← EReal.coe_inv, ← EReal.coe_mul]
  · unfold hgram scl; rw [hγ]
    split
    · rw [← EReal.coe_mul]; congr 1; ring
    · rw [← EReal.coe_mul]; congr 1; ring

/-- The merged matrix: the kernel's sum of scaled Gram matrices is the reference's combination of the summed Gram matrix
    and of its diagonal. -/
theorem merged (i j : Fin 3072) : (∑ k, hgram X k i j)
    = (aR : EReal) * (∑ k, ggram X k i j) + (bR : EReal) * (if i = j then ∑ k, ggram X k i i else 0) := by
  obtain ⟨γ, hg, hh⟩ := ggram_real X hX
  simp only [hg, hh]
  by_cases h : i = j
  · subst h
    simp only [if_true, sum_coe]
    rw [← EReal.coe_mul, ← EReal.coe_mul, ← EReal.coe_add]
    congr 1
    rw [← add_mul, aR_add_bR, one_mul]
  · simp only [if_neg h, sum_coe, mul_zero, add_zero]
    rw [← EReal.coe_mul]
    congr 1
    rw [Finset.mul_sum]

/-- The right-hand side on and above the diagonal tiles, with the diagonal's own addend. -/
theorem rhs_upper (W : Fin 4 → Fin 3072 → EReal) (below : Fin 3072 → Prop) [DecidablePred below] (i : Fin 3072) (hi : ¬ below i) :
    (∑ k, ∑ j, if below j then 0 else hgram X k i j * W k j)
      = (aR : EReal) * (∑ k, ∑ j, (if below j then 0 else ggram X k i j) * W k j) + (bR : EReal) * (∑ k, ggram X k i i * W k i) := by
  obtain ⟨γ, hg, hh⟩ := ggram_real X hX
  rw [mul_sum_coe _ _ aR_nonneg, mul_sum_coe _ _ bR_nonneg, ← Finset.sum_add_distrib]
  refine Finset.sum_congr rfl fun k _ => ?_
  rw [mul_sum_coe _ _ aR_nonneg, show (bR : EReal) * (ggram X k i i * W k i)
    = ∑ j, if i = j then (bR : EReal) * (ggram X k i j * W k j) else 0 from by rw [Finset.sum_ite_eq]; simp,
    ← Finset.sum_add_distrib]
  refine Finset.sum_congr rfl fun j _ => ?_
  by_cases h : i = j
  · subst h
    rw [if_neg hi, if_neg hi, if_pos rfl, hg, hh, if_pos rfl,
      ← EReal.right_distrib_of_nonneg (by exact_mod_cast aR_nonneg) (by exact_mod_cast bR_nonneg), ← EReal.coe_add, aR_add_bR,
      EReal.coe_one, one_mul]
  · rw [if_neg h, add_zero]
    by_cases hb : below j
    · rw [if_pos hb, if_pos hb, zero_mul, mul_zero]
    · rw [if_neg hb, if_neg hb, hg, hh, if_neg h, EReal.coe_mul, mul_assoc]

/-- The right-hand side below the diagonal tiles. -/
theorem rhs_lower (W : Fin 4 → Fin 3072 → EReal) (below : Fin 3072 → Prop) [DecidablePred below] (i : Fin 3072) (hi : ¬ below i) :
    (∑ k, ∑ j, if below j then W k j * hgram X k j i else 0)
      = (aR : EReal) * (∑ k, ∑ j, (if below j then ggram X k i j else 0) * W k j) := by
  obtain ⟨γ, hg, hh⟩ := ggram_real X hX
  rw [mul_sum_coe _ _ aR_nonneg]
  refine Finset.sum_congr rfl fun k _ => ?_
  rw [mul_sum_coe _ _ aR_nonneg]
  refine Finset.sum_congr rfl fun j _ => ?_
  by_cases hb : below j
  · have hij : ¬ j = i := fun e => hi (e ▸ hb)
    rw [if_pos hb, if_pos hb, hh, if_neg hij, ggram_symm X k i j, hg, EReal.coe_mul, mul_comm (W k j), mul_assoc]
  · rw [if_neg hb, if_neg hb, zero_mul, mul_zero]

end

/-! ## The order of the grid points -/

/-- The row tile and the column tile of the `t`-th of the 21 tiles on and above the diagonal. -/
def rowN : Fin 21 → Fin 6 := ![0, 0, 0, 0, 0, 0, 1, 1, 1, 1, 1, 2, 2, 2, 2, 3, 3, 3, 4, 4, 5]
def colN : Fin 21 → Fin 6 := ![0, 1, 2, 3, 4, 5, 1, 2, 3, 4, 5, 2, 3, 4, 5, 3, 4, 5, 4, 5, 5]

/-- Element `l` of tile `J`. -/
def cat (J : Fin 6) (l : Fin 512) : Fin 3072 := ⟨512 * J.val + l.val, by have := J.isLt; have := l.isLt; omega⟩

/-- The tile of an element. -/
def tile (i : Fin 3072) : Fin 6 := ⟨i.val / 512, by have := i.isLt; omega⟩

theorem tile_cat (J : Fin 6) (l : Fin 512) : tile (cat J l) = J := by
  apply Fin.ext; show (512 * J.val + l.val) / 512 = J.val; have := l.isLt; omega

theorem sum_cat (f : Fin 3072 → EReal) : ∑ j, f j = ∑ J, ∑ l, f (cat J l) := by
  rw [← Fintype.sum_prod_type']
  refine (Fintype.sum_equiv (finProdFinEquiv (m := 6) (n := 512)) _ _ fun x => congrArg f ?_).symm
  apply Fin.ext
  show 512 * x.1.val + x.2.val = (finProdFinEquiv x).val
  rw [finProdFinEquiv_apply_val]; omega

theorem sum_row (I : Fin 6) (f : Fin 6 → EReal) :
    (∑ t, if rowN t = I then f (colN t) else 0) = ∑ J, if J < I then 0 else f J := by
  fin_cases I <;> simp [Fin.sum_univ_succ, rowN, colN, Fin.succ] <;> rfl

theorem sum_col (J : Fin 6) (f : Fin 6 → EReal) :
    (∑ t, if colN t = J ∧ rowN t ≠ colN t then f (rowN t) else 0) = ∑ I, if I < J then f I else 0 := by
  fin_cases J <;> simp [Fin.sum_univ_succ, rowN, colN, Fin.succ] <;> rfl

/-- A sum over the 84 grid points, tile by tile and batch by batch. -/
theorem sum_points (f : ℕ → EReal) : (∑ n ∈ Finset.range 84, f n) = ∑ k : Fin 4, ∑ t : Fin 21, f (4 * t.val + k.val) := by
  rw [Finset.sum_range, Finset.sum_comm, ← Fintype.sum_prod_type']
  refine (Fintype.sum_equiv (finProdFinEquiv (m := 21) (n := 4)) _ _ fun x => congrArg f ?_).symm
  rw [finProdFinEquiv_apply_val]; omega

end Cert.Math

end
-- ==== Proof.Value.Pay.lean ====
/- What the kernel body's operations compute at one element, over the extended reals. -/
module

public import proofs.«01_k».proof.Proof.KernelIdeal.Frame
public import proofs.«01_k».proof.Proof.Value.Math
public import Idealize.ShloMosaic.Lib.ValueIdx
public import Idealize.ShloMosaic.Lib.IdealHost
public import Idealize.ShloMosaic.Lib.Pipeline.Value
public import Idealize.ShloMosaic.Lib.ValueLayout
public import Idealize.ShloMosaic.Lib.WordCmp

@[expose] public section

noncomputable section

namespace Cert.KernelIdeal.Gen

open Idealize.ShloMosaic Idealize.ShloMosaic.ValueIdx
open scoped BigOperators

/-! ## The literals -/

theorem lit_mean : Ideal.ofBits .f32 0x39800000#32 = ((1 / 4096 : ℝ) : EReal) := by
  simp [Ideal.ofBits, Ideal.ieee, -EReal.coe_mul]; norm_num
theorem lit_alpha_mean : Ideal.ofBits .f32 0x39666666#32 = ((Math.aR / 4096 : ℝ) : EReal) := by
  simp [Ideal.ofBits, Ideal.ieee, Math.aR, -EReal.coe_mul]; norm_num
theorem lit_zero : Ideal.ofBits .f32 0x00000000#32 = 0 := by simp [Ideal.ofBits, Ideal.ieee]

/-! ## The products -/

/-- The product of the transposed left block with the right block. -/
theorem dot_tn (A B : S4096x512.Idx → EReal) (acc : S512x512.Idx → EReal) (r c : Fin 512) :
    Ideal.matmul dot_S4096x512_S4096x512_S512x512_0_0_1_1_n_n A B acc (ix2 r c)
      = acc (ix2 r c) + ∑ s : Fin 4096, A (ix2 s r) * B (ix2 s c) := by
  unfold Ideal.matmul
  rw [← Equiv.sum_comp (contrEquiv1 dot_S4096x512_S4096x512_S512x512_0_0_1_1_n_n 4096 rfl rfl).symm]
  congr 1
  refine Finset.sum_congr rfl fun s _ => ?_
  congr 1
  · congr 1; funext a; match a with | ⟨0, _⟩ => rfl | ⟨1, _⟩ => rfl
  · congr 1; funext a; match a with | ⟨0, _⟩ => rfl | ⟨1, _⟩ => rfl

/-- The plain product. -/
theorem dot_nn (A : S512x512.Idx → EReal) (B : S512x256.Idx → EReal) (acc : S512x256.Idx → EReal) (r : Fin 512) (c : Fin 256) :
    Ideal.matmul dot_S512x512_S512x256_S512x256_1_0_0_1_n_n A B acc (ix2 r c)
      = acc (ix2 r c) + ∑ s : Fin 512, A (ix2 r s) * B (ix2 s c) := by
  unfold Ideal.matmul
  rw [← Equiv.sum_comp (contrEquiv1 dot_S512x512_S512x256_S512x256_1_0_0_1_n_n 512 rfl rfl).symm]
  congr 1
  refine Finset.sum_congr rfl fun s _ => ?_
  congr 1
  · congr 1; funext a; match a with | ⟨0, _⟩ => rfl | ⟨1, _⟩ => rfl
  · congr 1; funext a; match a with | ⟨0, _⟩ => rfl | ⟨1, _⟩ => rfl

/-- The product of the transposed weights with a piece. -/
theorem dot_wn (A : S512x256.Idx → EReal) (B : S512x512.Idx → EReal) (acc : S256x512.Idx → EReal) (r : Fin 256) (c : Fin 512) :
    Ideal.matmul dot_S512x256_S512x512_S256x512_0_0_1_1_n_n A B acc (ix2 r c)
      = acc (ix2 r c) + ∑ s : Fin 512, A (ix2 s r) * B (ix2 s c) := by
  unfold Ideal.matmul
  rw [← Equiv.sum_comp (contrEquiv1 dot_S512x256_S512x512_S256x512_0_0_1_1_n_n 512 rfl rfl).symm]
  congr 1
  refine Finset.sum_congr rfl fun s _ => ?_
  congr 1
  · congr 1; funext a; match a with | ⟨0, _⟩ => rfl | ⟨1, _⟩ => rfl
  · congr 1; funext a; match a with | ⟨0, _⟩ => rfl | ⟨1, _⟩ => rfl

/-! ## The payloads -/

theorem word_eq_iff (a b : ℕ) (ha : a < 512) (hb : b < 512) : BitVec.ofNat 32 a = BitVec.ofNat 32 b ↔ a = b := by
  constructor
  · intro h
    have := congrArg BitVec.toNat h
    simp only [BitVec.toNat_ofNat] at this
    omega
  · exact congrArg _

/-- The mask of the diagonal at one element. -/
theorem mask_apply (v1 v3 : BitVec 32) (A B : EReal) (r c : Fin 512) :
    Scalar.select (andi (cmpi .eq (iota .tc S512x512 32 [0] iota_S512x512_d0_w32) (iota .tc S512x512 32 [1] iota_S512x512_d1_w32))
      (broadcast S512x512 (Scalar.cmpi .eq v1 v3)) (ix2 r c)) A B = if r = c ∧ v1 = v3 then A else B := by
  have h : andi (cmpi .eq (iota .tc S512x512 32 [0] iota_S512x512_d0_w32) (iota .tc S512x512 32 [1] iota_S512x512_d1_w32))
      (broadcast S512x512 (Scalar.cmpi .eq v1 v3)) (ix2 r c)
      = BitVec.ofBool (decide (BitVec.ofNat 32 r.val = BitVec.ofNat 32 c.val)) &&& BitVec.ofBool (decide (v1 = v3)) := by
    have h0 : iota .tc S512x512 32 [0] iota_S512x512_d0_w32 (ix2 r c) = BitVec.ofNat 32 r.val := by
      simp [iota]
    have h1 : iota .tc S512x512 32 [1] iota_S512x512_d1_w32 (ix2 r c) = BitVec.ofNat 32 c.val := by
      simp [iota]
    show IntOp.cmpi .eq (iota .tc S512x512 32 [0] iota_S512x512_d0_w32 (ix2 r c)) (iota .tc S512x512 32 [1] iota_S512x512_d1_w32 (ix2 r c))
      &&& IntOp.cmpi .eq v1 v3 = _
    rw [h0, h1, WordCmp.cmpi_eq_eq, WordCmp.cmpi_eq_eq]
  rw [h]
  have e := word_eq_iff r.val c.val r.isLt c.isLt
  by_cases h1 : r = c <;> by_cases h2 : v1 = v3
  · subst h1 h2; simp [Scalar.select]
  · subst h1; simp [Scalar.select, h2]
  · subst h2; simp [Scalar.select, h1, e, Fin.val_inj]
  · simp [Scalar.select, h1, h2, e, Fin.val_inj]

/-- The point's scaled Gram element. -/
theorem pay5_apply (v1 v3 : BitVec 32) (x0 x1 : Vec Ideal S1x4096x512 .bf16) (r c : Fin 512) :
    k0_pay5 (F := Ideal) v1 v3 x0 x1 (ix2 r c)
      = ((∑ s : Fin 4096, (x0 (ix3 0 s r) : EReal) * x1 (ix3 0 s c))
          * (if r = c ∧ v1 = v3 then ((1 / 4096 : ℝ) : EReal) else ((Math.aR / 4096 : ℝ) : EReal)) : EReal) := by
  unfold k0_pay5
  dsimp only
  refine (mulf_apply _ _ _).trans ?_
  refine congrArg₂ (fun a b : EReal => a * b) ?_ ?_
  · refine (dot_tn _ _ _ r c).trans ?_
    rw [show (constant S512x512 .f32 0x00000000#32 : FVec Ideal S512x512 .f32) (ix2 r c) = (0 : EReal) from lit_zero, zero_add]
    refine Finset.sum_congr rfl fun s _ => ?_
    rw [shapeCast_1ab_ab_apply, shapeCast_1ab_ab_apply]
  · refine Eq.trans ?_ ((mask_apply v1 v3 (Ideal.ofBits .f32 0x39800000#32) (Ideal.ofBits .f32 0x39666666#32) r c).trans ?_)
    · rfl
    · rw [lit_mean, lit_alpha_mean]

theorem pay6_apply (v1 v3 : BitVec 32) (x0 x1 : Vec Ideal S1x4096x512 .bf16) (r c : Fin 512) :
    k0_pay6 (F := Ideal) v1 v3 x0 x1 (ix3 0 r c) = k0_pay5 v1 v3 x0 x1 (ix2 r c) := by
  unfold k0_pay6
  exact shapeCast_ab_1ab_apply _ _ _ _ _

theorem pay7_apply (v1 v3 : BitVec 32) (x0 x1 : Vec Ideal S1x4096x512 .bf16) (d : Vec Ideal S1x512x512 .f32) (r c : Fin 512) :
    k0_pay7 (F := Ideal) v1 v3 x0 x1 d (ix3 0 r c) = ((d (ix3 0 r c) : EReal) + k0_pay5 v1 v3 x0 x1 (ix2 r c) : EReal) := by
  unfold k0_pay7
  refine (shapeCast_ab_1ab_apply _ _ _ _ _).trans ?_
  refine (addf_apply _ _ _).trans ?_
  rw [shapeCast_1ab_ab_apply]

/-- The dequantized weight at one element of a block. -/
theorem weight_apply (x3 : Vec Ideal S1x512x256 .i8) (x4 : Vec Ideal S1x1x256 .f32) (l : Fin 512) (o : Fin 256) :
    (mulf (sitofp .bf16 (shapeCast S512x256 x3 shapeCasts_S1x512x256_S512x256) : FVec Ideal S512x256 .bf16)
      (broadcastTo S512x256 (truncf .bf16 (shapeCast S1x256 x4 shapeCasts_S1x1x256_S1x256 : FVec Ideal S1x256 .f32) bitsLt_bf16_f32) broadcasts_S1x256_S512x256)
        (ix2 l o) : EReal)
      = ((BitVec.toInt (x3 (ix3 0 l o)) : ℝ) : EReal) * x4 (ix3 0 0 o) := by
  refine (mulf_apply _ _ _).trans ?_
  refine congrArg₂ (fun a b : EReal => a * b) ?_ ?_
  · rw [sitofp_apply, shapeCast_1ab_ab_apply]; rfl
  · refine (broadcastTo_1b_ab_apply _ _ _ _).trans ?_
    show shapeCast S1x256 x4 shapeCasts_S1x1x256_S1x256 (ix2 0 o) = _
    exact shapeCast_1ab_ab_apply _ _ _ _

/-- The row tile's increase: the first piece's product with the weights and, the pieces after it being zero, nothing more. -/
theorem pay1_apply (h m l : S512x512.Idx → EReal) (hm : ∀ i, m i = 0) (hl : ∀ i, l i = 0) (x3 : Vec Ideal S1x512x256 .i8)
    (x4 : Vec Ideal S1x1x256 .f32) (d : Vec Ideal S512x256 .f32) (r : Fin 512) (o : Fin 256) :
    k0_pay1 (F := Ideal) h m l x3 x4 d (ix2 r o)
      = ((d (ix2 r o) : EReal) + ∑ s : Fin 512, h (ix2 r s) * (((BitVec.toInt (x3 (ix3 0 s o)) : ℝ) : EReal) * x4 (ix3 0 0 o)) : EReal) := by
  have z : (constant S512x256 .f32 0x00000000#32 : FVec Ideal S512x256 .f32) (ix2 r o) = (0 : EReal) := lit_zero
  unfold k0_pay1
  refine (addf_apply _ _ _).trans ?_
  refine (congrArg₂ (fun a b : EReal => a + b) ((addf_apply _ _ _).trans (congrArg₂ (fun a b : EReal => a + b) ((addf_apply _ _ _).trans
    (congrArg₂ (fun a b : EReal => a + b) rfl (dot_nn _ _ _ r o))) (dot_nn _ _ _ r o))) (dot_nn _ _ _ r o)).trans ?_
  simp only [hm, hl, zero_mul, Finset.sum_const_zero, z, zero_add, add_zero, weight_apply]
  rw [shapeCast_self]

/-- The column tile's increase of the transposed accumulator. -/
theorem pay2_apply (h m l : S512x512.Idx → EReal) (hm : ∀ i, m i = 0) (hl : ∀ i, l i = 0) (x2 : Vec Ideal S1x512x256 .i8)
    (x4 : Vec Ideal S1x1x256 .f32) (d : Vec Ideal S256x512 .f32) (o : Fin 256) (c : Fin 512) :
    k0_pay2 (F := Ideal) h m l x2 x4 d (ix2 o c)
      = ((d (ix2 o c) : EReal) + ∑ s : Fin 512, (((BitVec.toInt (x2 (ix3 0 s o)) : ℝ) : EReal) * x4 (ix3 0 0 o)) * h (ix2 s c) : EReal) := by
  have z : (constant S256x512 .f32 0x00000000#32 : FVec Ideal S256x512 .f32) (ix2 o c) = (0 : EReal) := lit_zero
  unfold k0_pay2
  refine (addf_apply _ _ _).trans ?_
  refine (congrArg₂ (fun a b : EReal => a + b) ((addf_apply _ _ _).trans (congrArg₂ (fun a b : EReal => a + b) ((addf_apply _ _ _).trans
    (congrArg₂ (fun a b : EReal => a + b) rfl (dot_wn _ _ _ o c))) (dot_wn _ _ _ o c))) (dot_wn _ _ _ o c)).trans ?_
  simp only [hm, hl, mul_zero, Finset.sum_const_zero, z, zero_add, add_zero, weight_apply]
  rw [shapeCast_self]

/-- The first piece is the Gram tile itself; the two after it are its differences with itself. -/
theorem pay8_eq (v1 v3 : BitVec 32) (x0 x1 : Vec Ideal S1x4096x512 .bf16) (i : S512x512.Idx) :
    k0_pay8 (F := Ideal) v1 v3 x0 x1 i = (k0_pay5 v1 v3 x0 x1 i : EReal) := rfl
theorem pay10_eq (v1 v3 : BitVec 32) (x0 x1 : Vec Ideal S1x4096x512 .bf16) (i : S512x512.Idx) :
    k0_pay10 (F := Ideal) v1 v3 x0 x1 i = ((k0_pay5 v1 v3 x0 x1 i : EReal) - k0_pay5 v1 v3 x0 x1 i : EReal) := rfl
theorem pay11_eq (v1 v3 : BitVec 32) (x0 x1 : Vec Ideal S1x4096x512 .bf16) (i : S512x512.Idx) :
    k0_pay11 (F := Ideal) v1 v3 x0 x1 i
      = (((k0_pay5 v1 v3 x0 x1 i : EReal) - k0_pay5 v1 v3 x0 x1 i) - ((k0_pay5 v1 v3 x0 x1 i : EReal) - k0_pay5 v1 v3 x0 x1 i) : EReal) := rfl

end Cert.KernelIdeal.Gen

end
-- ==== Proof.Value.Blocks.lean ====
/- The input blocks of a grid point as elements of the arguments. -/
module

public import proofs.«01_k».proof.Proof.Value.Pay

@[expose] public section

noncomputable section

namespace Cert.KernelIdeal.Gen

open Idealize.ShloMosaic Idealize.ShloMosaic.TcCoe Idealize.ShloMosaic.Tactic Idealize.ShloMosaic.ValueIdx
open Idealize.ShloMosaic.Pipeline (Dat Cfg Window)
open scoped BigOperators

variable (m : (ℓ : Loc nD τ sig) → Buf (Elt Ideal) ℓ)

/-- The tile pair and the batch of a grid point. -/
def tt (t : Fin grid0.N) : Fin 21 := ⟨t.val / 4, by have : t.val < 84 := Nat.lt_of_lt_of_eq t.isLt N_0; omega⟩
def kk (t : Fin grid0.N) : Fin 4 := ⟨t.val % 4, by omega⟩

theorem coord_0 (t : Fin grid0.N) : grid0.coords t 0 = tt t := by
  have ht : t.val < 84 := Nat.lt_of_lt_of_eq t.isLt N_0
  have e0 : (grid0.coords t 0).val = t.val / 4 % 21 := Pipeline.Grid.coords_val t 0 (by decide) rfl
  apply Fin.ext
  rw [e0]; show _ = t.val / 4; omega
theorem coord_1 (t : Fin grid0.N) : (grid0.coords t 1).val = t.val % 4 := by
  have e1 : (grid0.coords t 1).val = t.val / 1 % 4 := Pipeline.Grid.coords_val t 1 (by decide) rfl
  rw [e1]; omega

theorem lit0_eq : ∀ n : Fin 21, lit0 n = BitVec.ofNat 32 (Math.rowN n).val := by decide
theorem lit1_eq : ∀ n : Fin 21, lit1 n = BitVec.ofNat 32 (Math.colN n).val := by decide

/-- The words the tables hold for a grid point are the numbers of its row tile and of its column tile. -/
theorem rowT_eq (t : Fin grid0.N) : rowT (grid0.coords t) = BitVec.ofNat 32 (Math.rowN (tt t)).val := by
  unfold rowT; rw [coord_0]; exact lit0_eq _
theorem colT_eq (t : Fin grid0.N) : colT (grid0.coords t) = BitVec.ofNat 32 (Math.colN (tt t)).val := by
  unfold colT; rw [coord_0]; exact lit1_eq _

theorem toNat_tile (I : Fin 6) : (BitVec.ofNat 32 I.val).toNat = I.val := by
  rw [BitVec.toNat_ofNat]; have := I.isLt; omega
theorem toNat_kk (t : Fin grid0.N) : (BitVec.ofNat 32 (grid0.coords t 1).val).toNat = t.val % 4 := by
  rw [BitVec.toNat_ofNat, coord_1]; omega

/-- The arguments by index. -/
def X (c : Dev nD) (k : Fin 4) (s : Fin 4096) (i : Fin 3072) : EReal := (m ((c : Thread nD τ).loc main_arg0) : Vec Ideal S4x4096x3072 .bf16) (ix3 k s i)
def Wt (c : Dev nD) (o : Fin 256) (k : Fin 4) (i : Fin 3072) : EReal :=
  ((BitVec.toInt ((m ((c : Thread nD τ).loc main_arg1) : Vec Ideal S4x3072x256 .i8) (ix3 k i o)) : ℝ) : EReal)
    * (m ((c : Thread nD τ).loc main_arg2) : Vec Ideal S4x256 .f32) (ix2 k o)

/-- The left block holds the rows' columns of the point's row tile, -/
theorem iblk_0 (hO : Ok m) (c : Dev nD) (t : Fin (cfgM m hO).N) (s : Fin 4096) (r : Fin 512) :
    (iblk m hO c 0 t : Vec Ideal S1x4096x512 .bf16) (ix3 0 s r) = X m c (kk t) s (Math.cat (Math.rowN (tt t)) r) := by
  unfold iblk X
  refine (congrFun (V_main_arg0 m c) ((((cfgM m hO).win 0).blk t).view.emb (ix3 0 s r))).trans ?_
  refine congrArg (m ((c : Thread nD τ).loc main_arg0)) ?_
  have h := tr_0 m (grid0.coords t)
  rw [rowT_eq, toNat_kk, toNat_tile] at h
  funext a
  apply Fin.ext
  match a with
  | ⟨0, _⟩ =>
    refine (Window.rect_emb_val _ _ _ _).trans ?_
    refine (congrArg (fun n => n * _ + _) (congrFun h 0)).trans ?_
    show t.val % 4 * 1 + 0 = t.val % 4; omega
  | ⟨1, _⟩ =>
    refine (Window.rect_emb_val _ _ _ _).trans ?_
    refine (congrArg (fun n => n * _ + _) (congrFun h 1)).trans ?_
    show 0 * 4096 + s.val = s.val; omega
  | ⟨2, _⟩ =>
    refine (Window.rect_emb_val _ _ _ _).trans ?_
    refine (congrArg (fun n => n * _ + _) (congrFun h 2)).trans ?_
    show (Math.rowN (tt t)).val * 512 + r.val = 512 * (Math.rowN (tt t)).val + r.val; omega
/-- the right block those of its column tile, -/
theorem iblk_1 (hO : Ok m) (c : Dev nD) (t : Fin (cfgM m hO).N) (s : Fin 4096) (r : Fin 512) :
    (iblk m hO c 1 t : Vec Ideal S1x4096x512 .bf16) (ix3 0 s r) = X m c (kk t) s (Math.cat (Math.colN (tt t)) r) := by
  unfold iblk X
  refine (congrFun (V_main_arg0 m c) ((((cfgM m hO).win 1).blk t).view.emb (ix3 0 s r))).trans ?_
  refine congrArg (m ((c : Thread nD τ).loc main_arg0)) ?_
  have h := tr_1 m (grid0.coords t)
  rw [colT_eq, toNat_kk, toNat_tile] at h
  funext a
  apply Fin.ext
  match a with
  | ⟨0, _⟩ =>
    refine (Window.rect_emb_val _ _ _ _).trans ?_
    refine (congrArg (fun n => n * _ + _) (congrFun h 0)).trans ?_
    show t.val % 4 * 1 + 0 = t.val % 4; omega
  | ⟨1, _⟩ =>
    refine (Window.rect_emb_val _ _ _ _).trans ?_
    refine (congrArg (fun n => n * _ + _) (congrFun h 1)).trans ?_
    show 0 * 4096 + s.val = s.val; omega
  | ⟨2, _⟩ =>
    refine (Window.rect_emb_val _ _ _ _).trans ?_
    refine (congrArg (fun n => n * _ + _) (congrFun h 2)).trans ?_
    show (Math.colN (tt t)).val * 512 + r.val = 512 * (Math.colN (tt t)).val + r.val; omega
/-- the codes those of the row tile, -/
theorem iblk_2 (hO : Ok m) (c : Dev nD) (t : Fin (cfgM m hO).N) (l : Fin 512) (o : Fin 256) :
    (iblk m hO c 2 t : Vec Ideal S1x512x256 .i8) (ix3 0 l o)
      = (m ((c : Thread nD τ).loc main_arg1) : Vec Ideal S4x3072x256 .i8) (ix3 (kk t) (Math.cat (Math.rowN (tt t)) l) o) := by
  unfold iblk
  refine (congrFun (V_main_arg1 m c) ((((cfgM m hO).win 2).blk t).view.emb (ix3 0 l o))).trans ?_
  refine congrArg (m ((c : Thread nD τ).loc main_arg1)) ?_
  have h := tr_2 m (grid0.coords t)
  rw [rowT_eq, toNat_kk, toNat_tile] at h
  funext a
  apply Fin.ext
  match a with
  | ⟨0, _⟩ =>
    refine (Window.rect_emb_val _ _ _ _).trans ?_
    refine (congrArg (fun n => n * _ + _) (congrFun h 0)).trans ?_
    show t.val % 4 * 1 + 0 = t.val % 4; omega
  | ⟨1, _⟩ =>
    refine (Window.rect_emb_val _ _ _ _).trans ?_
    refine (congrArg (fun n => n * _ + _) (congrFun h 1)).trans ?_
    show (Math.rowN (tt t)).val * 512 + l.val = 512 * (Math.rowN (tt t)).val + l.val; omega
  | ⟨2, _⟩ =>
    refine (Window.rect_emb_val _ _ _ _).trans ?_
    refine (congrArg (fun n => n * _ + _) (congrFun h 2)).trans ?_
    show 0 * 256 + o.val = o.val; omega
/-- or of the column tile, -/
theorem iblk_3 (hO : Ok m) (c : Dev nD) (t : Fin (cfgM m hO).N) (l : Fin 512) (o : Fin 256) :
    (iblk m hO c 3 t : Vec Ideal S1x512x256 .i8) (ix3 0 l o)
      = (m ((c : Thread nD τ).loc main_arg1) : Vec Ideal S4x3072x256 .i8) (ix3 (kk t) (Math.cat (Math.colN (tt t)) l) o) := by
  unfold iblk
  refine (congrFun (V_main_arg1 m c) ((((cfgM m hO).win 3).blk t).view.emb (ix3 0 l o))).trans ?_
  refine congrArg (m ((c : Thread nD τ).loc main_arg1)) ?_
  have h := tr_3 m (grid0.coords t)
  rw [colT_eq, toNat_kk, toNat_tile] at h
  funext a
  apply Fin.ext
  match a with
  | ⟨0, _⟩ =>
    refine (Window.rect_emb_val _ _ _ _).trans ?_
    refine (congrArg (fun n => n * _ + _) (congrFun h 0)).trans ?_
    show t.val % 4 * 1 + 0 = t.val % 4; omega
  | ⟨1, _⟩ =>
    refine (Window.rect_emb_val _ _ _ _).trans ?_
    refine (congrArg (fun n => n * _ + _) (congrFun h 1)).trans ?_
    show (Math.colN (tt t)).val * 512 + l.val = 512 * (Math.colN (tt t)).val + l.val; omega
  | ⟨2, _⟩ =>
    refine (Window.rect_emb_val _ _ _ _).trans ?_
    refine (congrArg (fun n => n * _ + _) (congrFun h 2)).trans ?_
    show 0 * 256 + o.val = o.val; omega

/-- The scales reach the launch with a unit axis put in. -/
theorem V_main_v0 (c : Dev nD) : (V m c main_v0 : Vec Ideal S4x1x256 .f32)
    = broadcastInDim S4x1x256 ![0, 2] bcast_S4x256_S4x1x256_0_2 (m ((c : Thread nD τ).loc main_arg2) : Vec Ideal S4x256 .f32) := by
  unfold V
  after_results
/-- and the scales the batch's. -/
theorem iblk_4 (hO : Ok m) (c : Dev nD) (t : Fin (cfgM m hO).N) (o : Fin 256) :
    (iblk m hO c 4 t : Vec Ideal S1x1x256 .f32) (ix3 0 0 o) = (m ((c : Thread nD τ).loc main_arg2) : Vec Ideal S4x256 .f32) (ix2 (kk t) o) := by
  unfold iblk
  have e : ((((cfgM m hO).win 4).blk t).view.emb (ix3 0 0 o) : S4x1x256.Idx) = ix3 (kk t) 0 o := by
    have h : cc0_transform_4 (grid0.coords t) = ![(BitVec.ofNat 32 (grid0.coords t 1).val).toNat, (0#32).toNat, (0#32).toNat] := rfl
    rw [toNat_kk] at h
    funext a
    apply Fin.ext
    match a with
    | ⟨0, _⟩ =>
      refine (Window.rect_emb_val _ _ _ _).trans ?_
      refine (congrArg (fun n => n * _ + _) (congrFun h 0)).trans ?_
      show t.val % 4 * 1 + 0 = t.val % 4; omega
    | ⟨1, _⟩ =>
      refine (Window.rect_emb_val _ _ _ _).trans ?_
      refine (congrArg (fun n => n * _ + _) (congrFun h 1)).trans ?_
      show 0 * 1 + 0 = 0; omega
    | ⟨2, _⟩ =>
      refine (Window.rect_emb_val _ _ _ _).trans ?_
      refine (congrArg (fun n => n * _ + _) (congrFun h 2)).trans ?_
      show 0 * 256 + o.val = o.val; omega
  refine (congrArg (V m c main_v0 : Vec Ideal S4x1x256 .f32) e).trans ?_
  rw [V_main_v0]
  refine broadcastInDim_apply _ _ _ _ (ix2 (kk t) o) fun a => ?_
  match a with
  | ⟨0, _⟩ => rfl
  | ⟨1, _⟩ => rfl

end Cert.KernelIdeal.Gen

end
-- ==== Proof.Value.Acc.lean ====
/- What the kernel's output buffers hold point by point, as sums over the points run so far, and what its output arrays
   hold at the end. -/
module

public import proofs.«01_k».proof.Proof.Value.Blocks
public import Idealize.ShloMosaic.Lib.Pipeline.ValueKit.Geometry

@[expose] public section

noncomputable section

namespace Cert.KernelIdeal.Gen

open Idealize.ShloMosaic Idealize.ShloMosaic.TcCoe Idealize.ShloMosaic.Tactic Idealize.ShloMosaic.ValueIdx
open Idealize.ShloMosaic.Pipeline (Dat Cfg Window)
open scoped BigOperators

/-! ## Offsets and conditions by tile number -/

theorem off2_eq : ∀ I : Fin 6, k0_off2 (BitVec.ofNat 32 I.val) = ![512 * I.val, 0] := by decide
theorem off3_eq : ∀ I : Fin 6, k0_off3 (BitVec.ofNat 32 I.val) = ![0, 512 * I.val] := by decide
theorem cond4_iff : ∀ I J : Fin 6, k0_cond4 (BitVec.ofNat 32 I.val) (BitVec.ofNat 32 J.val) = 1#1 ↔ I ≠ J := by decide

theorem word_tile_iff : ∀ I J : Fin 6, BitVec.ofNat 32 I.val = BitVec.ofNat 32 J.val ↔ I = J := by decide

theorem cat_eq_iff (I J : Fin 6) (r q : Fin 512) : (r = q ∧ I = J) ↔ Math.cat I r = Math.cat J q := by
  constructor
  · rintro ⟨rfl, rfl⟩; rfl
  · intro h
    have h' : 512 * I.val + r.val = 512 * J.val + q.val := congrArg Fin.val h
    have := r.isLt; have := q.isLt
    exact ⟨Fin.ext (by omega), Fin.ext (by omega)⟩

/-- Every element is the one of its tile at its place there. -/
theorem exists_cat (i : Fin 3072) : ∃ r : Fin 512, i = Math.cat (Math.tile i) r :=
  ⟨⟨i.val % 512, by omega⟩, Fin.ext (by show i.val = 512 * (i.val / 512) + i.val % 512; omega)⟩

variable (m : (ℓ : Loc nD τ sig) → Buf (Elt Ideal) ℓ)

/-- The scaled Gram block of a point, element by element. -/
theorem pay5_pt (hO : Ok m) (c : Dev nD) (t : Fin (cfgM m hO).N) (r q : Fin 512) :
    k0_pay5 (F := Ideal) (rowT (grid0.coords t)) (colT (grid0.coords t)) (iblk m hO c 0 t) (iblk m hO c 1 t) (ix2 r q)
      = (Math.hgram (X m c) (kk t) (Math.cat (Math.rowN (tt t)) r) (Math.cat (Math.colN (tt t)) q) : EReal) := by
  refine (pay5_apply _ _ _ _ _ _).trans ?_
  unfold Math.hgram Math.gram Math.scl
  refine congrArg₂ (fun a b : EReal => a * b) (Finset.sum_congr rfl fun s _ => ?_) ?_
  · rw [iblk_0, iblk_1]
  · rw [rowT_eq, colT_eq]
    exact if_congr ((and_congr Iff.rfl (word_tile_iff _ _)).trans (cat_eq_iff _ _ _ _)) rfl rfl

variable (hX : ∀ c k s i, ∃ r : ℝ, X m c k s i = r)

include hX in
theorem pay10_pt (hO : Ok m) (c : Dev nD) (t : Fin (cfgM m hO).N) (i : S512x512.Idx) :
    k0_pay10 (F := Ideal) (rowT (grid0.coords t)) (colT (grid0.coords t)) (iblk m hO c 0 t) (iblk m hO c 1 t) i = (0 : EReal) := by
  obtain ⟨r, q, rfl⟩ : ∃ r q, i = ix2 r q := ⟨i 0, i 1, by funext a; match a with | ⟨0, _⟩ => rfl | ⟨1, _⟩ => rfl⟩
  refine (pay10_eq _ _ _ _ _).trans ?_
  rw [pay5_pt]
  exact Math.hgram_sub _ (hX c) _ _ _
include hX in
theorem pay11_pt (hO : Ok m) (c : Dev nD) (t : Fin (cfgM m hO).N) (i : S512x512.Idx) :
    k0_pay11 (F := Ideal) (rowT (grid0.coords t)) (colT (grid0.coords t)) (iblk m hO c 0 t) (iblk m hO c 1 t) i = (0 : EReal) := by
  obtain ⟨r, q, rfl⟩ : ∃ r q, i = ix2 r q := ⟨i 0, i 1, by funext a; match a with | ⟨0, _⟩ => rfl | ⟨1, _⟩ => rfl⟩
  refine (pay11_eq _ _ _ _ _).trans ?_
  rw [pay5_pt, Math.hgram_sub _ (hX c)]
  exact sub_zero _

/-! ## One point -/

theorem at5_apply (hO : Ok m) (c : Dev nD) (t : Fin (cfgM m hO).N) (d : Vec Ideal S1x512x512 .f32) (r q : Fin 512) :
    at5 m hO c t d (ix3 0 r q)
      = ((if t.val % 4 = 0 then 0 else (d (ix3 0 r q) : EReal)) + Math.hgram (X m c) (kk t) (Math.cat (Math.rowN (tt t)) r) (Math.cat (Math.colN (tt t)) q) : EReal) := by
  unfold at5 step5
  by_cases h : t.val % 4 = 0
  · rw [if_pos ((hcond0_1 t).mpr h), if_pos h, zero_add]
    exact (pay6_apply _ _ _ _ _ _).trans (pay5_pt m hO c t r q)
  · rw [if_neg (fun h' => h ((hcond0_1 t).mp h')), if_neg h]
    exact (pay7_apply _ _ _ _ _ _ _).trans (congrArg (fun b : EReal => (d (ix3 0 r q) : EReal) + b) (pay5_pt m hO c t r q))

/-- What a point adds to the right-hand side accumulator, -/
def add6 (c : Dev nD) (t : Fin grid0.N) (i : Fin 3072) (o : Fin 256) : EReal :=
  if Math.rowN (tt t) = Math.tile i then ∑ l, Math.hgram (X m c) (kk t) i (Math.cat (Math.colN (tt t)) l) * Wt m c o (kk t) (Math.cat (Math.colN (tt t)) l) else 0
/-- and to the transposed one. -/
def add7 (c : Dev nD) (t : Fin grid0.N) (o : Fin 256) (i : Fin 3072) : EReal :=
  if Math.colN (tt t) = Math.tile i ∧ Math.rowN (tt t) ≠ Math.colN (tt t) then
    ∑ l, Wt m c o (kk t) (Math.cat (Math.rowN (tt t)) l) * Math.hgram (X m c) (kk t) (Math.cat (Math.rowN (tt t)) l) i else 0

theorem base6_apply (t : Fin grid0.N) (d : Vec Ideal S3072x256 .f32) (y : S3072x256.Idx) :
    base6 (grid0.coords t) d y = (if t.val % 84 = 0 then (0 : EReal) else d y) := by
  unfold base6
  by_cases h : t.val % 84 = 0
  · rw [if_pos ((hcond0_0 t).mpr h), if_pos h]; exact lit_zero
  · rw [if_neg (fun h' => h ((hcond0_0 t).mp h')), if_neg h]
theorem base7_apply (t : Fin grid0.N) (d : Vec Ideal S256x3072 .f32) (y : S256x3072.Idx) :
    base7 (grid0.coords t) d y = (if t.val % 84 = 0 then (0 : EReal) else d y) := by
  unfold base7
  by_cases h : t.val % 84 = 0
  · rw [if_pos ((hcond0_0 t).mpr h), if_pos h]; exact lit_zero
  · rw [if_neg (fun h' => h ((hcond0_0 t).mp h')), if_neg h]

include hX in
theorem at6_apply (hO : Ok m) (c : Dev nD) (t : Fin (cfgM m hO).N) (d : Vec Ideal S3072x256 .f32) (i : Fin 3072) (o : Fin 256) :
    at6 m hO c t d (ix2 i o) = ((if t.val % 84 = 0 then (0 : EReal) else d (ix2 i o)) + add6 m c t i o : EReal) := by
  have hoff : k0_off2 (rowT (grid0.coords t)) = ![512 * (Math.rowN (tt t)).val, 0] := by rw [rowT_eq]; exact off2_eq _
  unfold at6 step6 add6
  by_cases h : Math.rowN (tt t) = Math.tile i
  · rw [if_pos (show Math.rowN (tt t) = Math.tile i from h)]
    obtain ⟨r, hr⟩ := exists_cat i
    rw [← h] at hr
    have e : (Rect.unit (s := S3072x256) (k0_off2 (rowT (grid0.coords t))) S512x256.size (k0_off2_inb (rowT (grid0.coords t)) (chk1 (grid0.coords t)))).emb (ix2 r o) = ix2 i o := by
      funext a
      apply Fin.ext
      match a with
      | ⟨0, _⟩ =>
        refine (ValueKit.rect_emb_unit_val _ _ _ _ _).trans ?_
        refine (congrArg (fun f : Fin 2 → ℕ => f 0 + r.val) hoff).trans ?_
        exact (congrArg Fin.val hr).symm
      | ⟨1, _⟩ =>
        refine (ValueKit.rect_emb_unit_val _ _ _ _ _).trans ?_
        exact (congrArg (fun f : Fin 2 → ℕ => f 1 + o.val) hoff).trans (Nat.zero_add _)
    refine (congrArg _ e.symm).trans ?_
    refine (upd_emb _ _ _ _).trans ?_
    refine (pay1_apply _ _ _ (pay10_pt m hX hO c t) (pay11_pt m hX hO c t) _ _ _ _ _).trans ?_
    refine congrArg₂ (fun a b : EReal => a + b) ?_ (Finset.sum_congr rfl fun l _ => ?_)
    · exact (congrArg (base6 (grid0.coords t) d) e).trans (base6_apply t d _)
    · rw [iblk_3, iblk_4]
      refine congrArg₂ (fun a b : EReal => a * b) ?_ rfl
      refine (pay8_eq _ _ _ _ _).trans ?_
      rw [pay5_pt, hr]
  · rw [if_neg (show ¬ Math.rowN (tt t) = Math.tile i from h), add_zero]
    refine (upd_not _ _ _ _ fun x hx => h ?_).trans (base6_apply t d _)
    have h0 := congrArg Fin.val (congrFun hx 0)
    have h1 := (ValueKit.rect_emb_unit_val _ _ _ x 0).symm.trans h0
    have h2 : (x 0).val < 512 := (x 0).isLt
    apply Fin.ext
    show _ = i.val / 512
    have h3 : 512 * (Math.rowN (tt t)).val + (x 0).val = i.val := (congrArg (fun f : Fin 2 → ℕ => f 0 + (x 0).val) hoff).symm.trans h1
    omega

include hX in
theorem at7_apply (hO : Ok m) (c : Dev nD) (t : Fin (cfgM m hO).N) (d : Vec Ideal S256x3072 .f32) (o : Fin 256) (i : Fin 3072) :
    at7 m hO c t d (ix2 o i) = ((if t.val % 84 = 0 then (0 : EReal) else d (ix2 o i)) + add7 m c t o i : EReal) := by
  have hoff : k0_off3 (colT (grid0.coords t)) = ![0, 512 * (Math.colN (tt t)).val] := by rw [colT_eq]; exact off3_eq _
  have hc : k0_cond4 (rowT (grid0.coords t)) (colT (grid0.coords t)) = 1#1 ↔ Math.rowN (tt t) ≠ Math.colN (tt t) := by
    rw [rowT_eq, colT_eq]; exact cond4_iff _ _
  unfold at7 step7 add7
  by_cases hd : Math.rowN (tt t) ≠ Math.colN (tt t)
  · rw [dif_pos (hc.mpr hd)]
    by_cases h : Math.colN (tt t) = Math.tile i
    · rw [if_pos (show Math.colN (tt t) = Math.tile i ∧ Math.rowN (tt t) ≠ Math.colN (tt t) from ⟨h, hd⟩)]
      obtain ⟨r, hr⟩ := exists_cat i
      rw [← h] at hr
      have e : (Rect.unit (s := S256x3072) (k0_off3 (colT (grid0.coords t))) S256x512.size (k0_off3_inb (rowT (grid0.coords t)) (colT (grid0.coords t)) (chk2 (grid0.coords t)) (hc.mpr hd))).emb (ix2 o r) = ix2 o i := by
        funext a
        apply Fin.ext
        match a with
        | ⟨0, _⟩ =>
          refine (ValueKit.rect_emb_unit_val _ _ _ _ _).trans ?_
          exact (congrArg (fun f : Fin 2 → ℕ => f 0 + o.val) hoff).trans (Nat.zero_add _)
        | ⟨1, _⟩ =>
          refine (ValueKit.rect_emb_unit_val _ _ _ _ _).trans ?_
          refine (congrArg (fun f : Fin 2 → ℕ => f 1 + r.val) hoff).trans ?_
          exact (congrArg Fin.val hr).symm
      refine (congrArg _ e.symm).trans ?_
      refine (upd_emb _ _ _ _).trans ?_
      refine (pay2_apply _ _ _ (pay10_pt m hX hO c t) (pay11_pt m hX hO c t) _ _ _ _ _).trans ?_
      refine congrArg₂ (fun a b : EReal => a + b) ?_ (Finset.sum_congr rfl fun l _ => ?_)
      · exact (congrArg (base7 (grid0.coords t) d) e).trans (base7_apply t d _)
      · rw [iblk_2, iblk_4]
        refine congrArg₂ (fun a b : EReal => a * b) rfl ?_
        refine (pay8_eq _ _ _ _ _).trans ?_
        rw [pay5_pt, hr]
    · rw [if_neg (show ¬ (Math.colN (tt t) = Math.tile i ∧ Math.rowN (tt t) ≠ Math.colN (tt t)) from fun h' => h h'.1), add_zero]
      refine (upd_not _ _ _ _ fun x hx => h ?_).trans (base7_apply t d _)
      have h0 := congrArg Fin.val (congrFun hx 1)
      have h1 := (ValueKit.rect_emb_unit_val _ _ _ x 1).symm.trans h0
      have h2 : (x 1).val < 512 := (x 1).isLt
      apply Fin.ext
      show _ = i.val / 512
      have h3 : 512 * (Math.colN (tt t)).val + (x 1).val = i.val := (congrArg (fun f : Fin 2 → ℕ => f 1 + (x 1).val) hoff).symm.trans h1
      omega
  · rw [dif_neg (fun h' => hd (hc.mp h')), if_neg (show ¬ (Math.colN (tt t) = Math.tile i ∧ Math.rowN (tt t) ≠ Math.colN (tt t)) from fun h' => hd h'.2), add_zero]
    exact base7_apply t d _

/-! ## All points -/

/-- The grid point of number `n`, independently of the tables. -/
def gp (n : ℕ) : Fin grid0.N := ⟨n % 84, lt_of_lt_of_eq (Nat.mod_lt _ (by omega)) N_0.symm⟩

include hX in
/-- The right-hand side accumulator after point `n` is the sum of what the points up to it add. -/
theorem acc6_apply (hO : Ok m) (c : Dev nD) (i : Fin 3072) (o : Fin 256) :
    ∀ n, n < 84 → acc6 m hO c n (ix2 i o) = (∑ u ∈ Finset.range (n + 1), add6 m c (gp u) i o : EReal)
  | 0, _ => by
    refine (at6_apply m hX hO c (pt m hO 0) _ i o).trans ?_
    rw [if_pos (show (pt m hO 0).val % 84 = 0 from rfl), zero_add, Finset.sum_range_one]; rfl
  | n + 1, hn => by
    refine (at6_apply m hX hO c (pt m hO (n + 1)) _ i o).trans ?_
    have hv : (pt m hO (n + 1)).val = n + 1 := Nat.mod_eq_of_lt hn
    rw [if_neg (by rw [hv]; omega), Finset.sum_range_succ, ← acc6_apply hO c i o n (by omega)]; rfl
include hX in
/-- Likewise the transposed one. -/
theorem acc7_apply (hO : Ok m) (c : Dev nD) (o : Fin 256) (i : Fin 3072) :
    ∀ n, n < 84 → acc7 m hO c n (ix2 o i) = (∑ u ∈ Finset.range (n + 1), add7 m c (gp u) o i : EReal)
  | 0, _ => by
    refine (at7_apply m hX hO c (pt m hO 0) _ o i).trans ?_
    rw [if_pos (show (pt m hO 0).val % 84 = 0 from rfl), zero_add, Finset.sum_range_one]; rfl
  | n + 1, hn => by
    refine (at7_apply m hX hO c (pt m hO (n + 1)) _ o i).trans ?_
    have hv : (pt m hO (n + 1)).val = n + 1 := Nat.mod_eq_of_lt hn
    rw [if_neg (by rw [hv]; omega), Finset.sum_range_succ, ← acc7_apply hO c o i n (by omega)]; rfl

theorem tt_gp (n : ℕ) (t : Fin 21) (k : Fin 4) (h : n = 4 * t.val + k.val) : tt (gp n) = t := by
  apply Fin.ext; show n % 84 / 4 = _; have := t.isLt; have := k.isLt; omega
theorem kk_gp (n : ℕ) (t : Fin 21) (k : Fin 4) (h : n = 4 * t.val + k.val) : kk (gp n) = k := by
  apply Fin.ext; show n % 84 % 4 = _; have := t.isLt; have := k.isLt; omega

theorem acc5_rec (hO : Ok m) (c : Dev nD) (t : Fin 21) (k : Fin 4) (hk : k ≠ 0) (r q : Fin 512) :
    acc5 m hO c (4 * t.val + k.val) (ix3 0 r q)
      = ((acc5 m hO c (4 * t.val + k.val - 1) (ix3 0 r q) : EReal) + Math.hgram (X m c) k (Math.cat (Math.rowN t) r) (Math.cat (Math.colN t) q) : EReal) := by
  have hk' : k.val ≠ 0 := fun h => hk (Fin.ext h)
  obtain ⟨n, hn⟩ : ∃ n, 4 * t.val + k.val = n + 1 := ⟨4 * t.val + k.val - 1, by omega⟩
  have hlt : n + 1 < 84 := by have := t.isLt; have := k.isLt; omega
  have e1 := tt_gp (n + 1) t k hn.symm
  have e2 := kk_gp (n + 1) t k hn.symm
  rw [hn]
  refine (at5_apply m hO c (pt m hO (n + 1)) _ r q).trans ?_
  have hv : (pt m hO (n + 1)).val = n + 1 := Nat.mod_eq_of_lt hlt
  rw [if_neg (by rw [hv]; have := k.isLt; omega)]
  refine congrArg₂ (fun a b : EReal => a + b) rfl ?_
  refine Eq.trans (b := Math.hgram (X m c) (kk (gp (n + 1))) (Math.cat (Math.rowN (tt (gp (n + 1)))) r) (Math.cat (Math.colN (tt (gp (n + 1)))) q)) rfl ?_
  rw [e1, e2]
theorem acc5_zero (hO : Ok m) (c : Dev nD) (t : Fin 21) (r q : Fin 512) :
    acc5 m hO c (4 * t.val) (ix3 0 r q) = (Math.hgram (X m c) 0 (Math.cat (Math.rowN t) r) (Math.cat (Math.colN t) q) : EReal) := by
  have hlt : 4 * t.val < 84 := by have := t.isLt; omega
  have e1 := tt_gp (4 * t.val) t 0 rfl
  have e2 := kk_gp (4 * t.val) t 0 rfl
  have hv : (pt m hO (4 * t.val)).val = 4 * t.val := Nat.mod_eq_of_lt hlt
  have key : ∀ d, at5 m hO c (pt m hO (4 * t.val)) d (ix3 0 r q) = (Math.hgram (X m c) 0 (Math.cat (Math.rowN t) r) (Math.cat (Math.colN t) q) : EReal) := by
    intro d
    refine (at5_apply m hO c (pt m hO (4 * t.val)) d r q).trans ?_
    rw [if_pos (by rw [hv]; omega), zero_add]
    refine Eq.trans (b := Math.hgram (X m c) (kk (gp (4 * t.val))) (Math.cat (Math.rowN (tt (gp (4 * t.val)))) r) (Math.cat (Math.colN (tt (gp (4 * t.val)))) q)) rfl ?_
    rw [e1, e2]
  by_cases h0 : 4 * t.val = 0
  · rw [h0] at key ⊢; exact key _
  · obtain ⟨n, hn⟩ : ∃ n, 4 * t.val = n + 1 := ⟨4 * t.val - 1, by omega⟩
    rw [hn] at key ⊢; exact key _

/-- The tile the last point of a tile pair leaves: the sum over the batches. -/
theorem acc5_last (hO : Ok m) (c : Dev nD) (t : Fin 21) (r q : Fin 512) :
    acc5 m hO c (4 * t.val + 3) (ix3 0 r q) = (∑ k, Math.hgram (X m c) k (Math.cat (Math.rowN t) r) (Math.cat (Math.colN t) q) : EReal) := by
  rw [Fin.sum_univ_four, ← acc5_zero m hO c t r q]
  refine (acc5_rec m hO c t 3 (by decide) r q).trans ?_
  refine congrArg₂ (fun a b : EReal => a + b) ((acc5_rec m hO c t 2 (by decide) r q).trans ?_) rfl
  refine congrArg₂ (fun a b : EReal => a + b) ((acc5_rec m hO c t 1 (by decide) r q).trans ?_) rfl
  rfl

end Cert.KernelIdeal.Gen

end
-- ==== Proof.Value.Final.lean ====
/- The kernel's result arrays after the run: what the last visit of each block leaves in it. -/
module

public import proofs.«01_k».proof.Proof.Value.Acc
public import Idealize.ShloMosaic.Lib.Pipeline.ValueKit.Geometry

@[expose] public section

noncomputable section

namespace Cert.KernelIdeal.Gen

open Idealize.ShloMosaic Idealize.ShloMosaic.TcCoe Idealize.ShloMosaic.Tactic Idealize.ShloMosaic.ValueIdx
open Idealize.ShloMosaic.Pipeline (Dat Cfg Window)
open scoped BigOperators

variable (m : (ℓ : Loc nD τ sig) → Buf (Elt Ideal) ℓ)

/-- The tiles' blocks cover their array: tile `t` is written back at point `4 t + 3`. -/
theorem covers5 (hO : Ok m) : ((cfgM m hO).win 5).Covers := by
  refine ⟨fun a => match a with | ⟨0, _⟩ => Nat.one_pos | ⟨1, _⟩ => (by decide : 0 < 512) | ⟨2, _⟩ => (by decide : 0 < 512), fun β => ?_⟩
  have h0 : (β (0 : Fin 3)).val < 21 := lt_of_lt_of_eq (β (0 : Fin 3)).isLt (show _ = 21 from (by decide : (![21, 512, 512] (0 : Fin 3) + ![1, 512, 512] (0 : Fin 3) - 1) / ![1, 512, 512] (0 : Fin 3) = 21))
  have h1 : (β (1 : Fin 3)).val < 1 := lt_of_lt_of_eq (β (1 : Fin 3)).isLt (show _ = 1 from (by decide : (![21, 512, 512] (1 : Fin 3) + ![1, 512, 512] (1 : Fin 3) - 1) / ![1, 512, 512] (1 : Fin 3) = 1))
  have h2 : (β (2 : Fin 3)).val < 1 := lt_of_lt_of_eq (β (2 : Fin 3)).isLt (show _ = 1 from (by decide : (![21, 512, 512] (2 : Fin 3) + ![1, 512, 512] (2 : Fin 3) - 1) / ![1, 512, 512] (2 : Fin 3) = 1))
  refine ⟨gp (4 * (β (0 : Fin 3)).val + 3), (flush0_5 (adm m hO) _).mpr ?_, fun a => ?_⟩
  · show (4 * (β (0 : Fin 3)).val + 3) % 84 % 4 = 3; omega
  · match a with
    | ⟨0, _⟩ =>
      refine ⟨?_, Or.inl rfl⟩
      refine Eq.trans (b := (BitVec.ofNat 32 (grid0.coords (gp (4 * (β (0 : Fin 3)).val + 3)) 0).val).toNat) rfl ?_
      rw [coord_0, BitVec.toNat_ofNat]
      show (4 * (β (0 : Fin 3)).val + 3) % 84 / 4 % 2 ^ 32 = (β (0 : Fin 3)).val
      omega
    | ⟨1, _⟩ => exact ⟨(Nat.lt_one_iff.mp h1).symm, Or.inl rfl⟩
    | ⟨2, _⟩ => exact ⟨(Nat.lt_one_iff.mp h2).symm, Or.inl rfl⟩

/-- Where the tile block's entry `(0, r, q)` of a point lies in the array. -/
theorem emb5 (hO : Ok m) (t : Fin (cfgM m hO).N) (r q : Fin 512) :
    ((((cfgM m hO).win 5).blk t).view.emb (ix3 (0 : Fin 1) r q) : S21x512x512.Idx) = ix3 (tt t) r q := by
  have ht : t.val < 84 := Nat.lt_of_lt_of_eq t.isLt N_0
  funext a
  apply Fin.ext
  match a with
  | ⟨0, _⟩ =>
    refine (Window.rect_emb_val _ _ _ _).trans ?_
    refine Eq.trans (b := (BitVec.ofNat 32 (grid0.coords t 0).val).toNat * 1 + 0) rfl ?_
    rw [coord_0, BitVec.toNat_ofNat]
    show t.val / 4 % 2 ^ 32 * 1 + 0 = t.val / 4
    omega
  | ⟨1, _⟩ =>
    refine (Window.rect_emb_val _ _ _ _).trans ?_
    show 0 * 512 + r.val = r.val; omega
  | ⟨2, _⟩ =>
    refine (Window.rect_emb_val _ _ _ _).trans ?_
    show 0 * 512 + q.val = q.val; omega

/-- The tiles' array after the run. -/
def G5 (hO : Ok m) (c : Dev nD) : S21x512x512.Idx → EReal := fun j => acc5 m hO c (4 * (j 0).val + 3) (ix3 0 (j 1) (j 2))

theorem final5 (hO : Ok m) (c : Dev nD) : (dats m hO 0 c).arrAt 5 (cfgM m hO).N = (G5 m hO c : Vec Ideal S21x512x512 .f32) := by
  refine (dats m hO 0 c).arrAt_eq_of_covers 5 _ (covers5 m hO) fun t hf y => ?_
  have h3 : t.val % 4 = 3 := (flush0_5 (adm m hO) t).mp hf
  obtain ⟨z, r, q, rfl⟩ : ∃ (z : Fin 1) (r q : Fin 512), y = (ix3 z r q : S1x512x512.Idx) :=
    ⟨y (0 : Fin 3), y (1 : Fin 3), y (2 : Fin 3), by funext a; match a with | ⟨0, _⟩ => rfl | ⟨1, _⟩ => rfl | ⟨2, _⟩ => rfl⟩
  obtain rfl : z = 0 := Subsingleton.elim _ _
  refine Eq.trans (b := ((dats m hO 0 c).after 5 t : Vec Ideal S1x512x512 .f32) (ix3 0 r q)) rfl ?_
  refine (congrFun (after0_5 m hO c t) _).trans ?_
  refine Eq.trans ?_ (congrArg (G5 m hO c) (emb5 m hO t r q)).symm
  unfold G5
  show acc5 m hO c t.val (ix3 0 r q) = acc5 m hO c (4 * (t.val / 4) + 3) (ix3 0 r q)
  rw [show 4 * (t.val / 4) + 3 = t.val by omega]

/-- The last point writes the whole of both other results back, and only it does. -/
theorem whole6 (hO : Ok m) : ((cfgM m hO).win 6).WholeAt (gp 83) := by
  refine ⟨(flush0_6 (adm m hO) _).mpr rfl, fun t hf => Fin.ext ?_, fun a => ?_⟩
  · have h := (flush0_6 (adm m hO) t).mp hf
    have ht : t.val < 84 := Nat.lt_of_lt_of_eq t.isLt N_0
    show t.val = 83
    omega
  · match a with
    | ⟨0, _⟩ => exact ⟨rfl, rfl⟩
    | ⟨1, _⟩ => exact ⟨rfl, rfl⟩
theorem whole7 (hO : Ok m) : ((cfgM m hO).win 7).WholeAt (gp 83) := by
  refine ⟨(flush0_7 (adm m hO) _).mpr rfl, fun t hf => Fin.ext ?_, fun a => ?_⟩
  · have h := (flush0_7 (adm m hO) t).mp hf
    have ht : t.val < 84 := Nat.lt_of_lt_of_eq t.isLt N_0
    show t.val = 83
    omega
  · match a with
    | ⟨0, _⟩ => exact ⟨rfl, rfl⟩
    | ⟨1, _⟩ => exact ⟨rfl, rfl⟩

theorem final6 (hO : Ok m) (c : Dev nD) : (dats m hO 0 c).arrAt 6 (cfgM m hO).N = (acc6 m hO c 83 : Vec Ideal S3072x256 .f32) :=
  (dats m hO 0 c).arrAt_eq_of_after_last 6 (gp 83) (whole6 m hO) _ fun j => congrFun (after0_6 m hO c (gp 83)) _
theorem final7 (hO : Ok m) (c : Dev nD) : (dats m hO 0 c).arrAt 7 (cfgM m hO).N = (acc7 m hO c 83 : Vec Ideal S256x3072 .f32) :=
  (dats m hO 0 c).arrAt_eq_of_after_last 7 (gp 83) (whole7 m hO) _ fun j => congrFun (after0_7 m hO c (gp 83)) _

end Cert.KernelIdeal.Gen

end
-- ==== Proof.Value.Ref.lean ====
/- What the reference program returns at one element, over the extended reals. -/
module

public import proofs.«01_k».proof.Proof.Gen.ReferenceIdeal.Run
public import proofs.«01_k».proof.Proof.Value.Math
public import Idealize.ShloMosaic.Lib.ValueIdx
public import Idealize.ShloMosaic.Lib.IdealHost
public import Idealize.ShloMosaic.Lib.TwoAxisContraction
public import Idealize.ShloMosaic.Lib.Pipeline.Value
public import Idealize.ShloMosaic.Lib.WordCmp

@[expose] public section

noncomputable section

namespace Cert.ReferenceIdeal.Value

open Cert.ReferenceIdeal Cert.ReferenceIdeal.Gen Idealize.ShloMosaic Idealize.ShloMosaic.TcCoe Idealize.ShloMosaic.ValueIdx
open scoped BigOperators

/-! ## The literals -/

theorem lit_alpha : Ideal.ofBits .f32 0x3F666666#32 = ((Math.aR : ℝ) : EReal) := by
  simp [Ideal.ofBits, Ideal.ieee, Math.aR, -EReal.coe_mul]; norm_num
theorem lit_beta : Ideal.ofBits .f32 0x3DCCCCD0#32 = ((Math.bR : ℝ) : EReal) := by
  simp [Ideal.ofBits, Ideal.ieee, Math.bR, -EReal.coe_mul]; norm_num
theorem lit_seq : Ideal.ofBits .f32 0x45800000#32 = ((4096 : ℝ) : EReal) := by
  simp [Ideal.ofBits, Ideal.ieee, -EReal.coe_mul]; norm_num
theorem lit_zero : Ideal.ofBits .f32 0x00000000#32 = 0 := by simp [Ideal.ofBits, Ideal.ieee]

/-! ## The tiles -/

/-- One tile of a matrix with a unit axis put in front. -/
def piece (off : Fin 2 → ℕ) (h : Shape.Slices S3072x3072 off S512x512) (A : S3072x3072.Idx → EReal) : S1x512x512.Idx → EReal :=
  broadcastInDim S1x512x512 ![1, 2] bcast_S512x512_S1x512x512_1_2 (extractStridedSlice S512x512 off A h)

theorem piece_apply (I J : Fin 6) (off : Fin 2 → ℕ) (hoff : off = ![512 * I.val, 512 * J.val]) (h : Shape.Slices S3072x3072 off S512x512)
    (A : S3072x3072.Idx → EReal) (r q : Fin 512) : piece off h A (ix3 0 r q) = A (ix2 (Math.cat I r) (Math.cat J q)) := by
  subst hoff
  unfold piece
  refine (broadcastInDim_apply _ _ _ _ (ix2 r q) fun a => match a with | ⟨0, _⟩ => rfl | ⟨1, _⟩ => rfl).trans ?_
  exact extractStridedSlice_apply _ _ _ _ _ fun a => match a with | ⟨0, _⟩ => rfl | ⟨1, _⟩ => rfl

/-- The tiles on and above the diagonal, stacked in row order. -/
def tiles (A : S3072x3072.Idx → EReal) : S21x512x512.Idx → EReal :=
  concatenate S21x512x512 0 [⟨S16x512x512, concatenate S16x512x512 0 [⟨S1x512x512, piece ![0, 0] slices_S3072x3072_S512x512_0_0 A⟩,
      ⟨S1x512x512, piece ![0, 512] slices_S3072x3072_S512x512_0_512 A⟩,
      ⟨S1x512x512, piece ![0, 1024] slices_S3072x3072_S512x512_0_1024 A⟩,
      ⟨S1x512x512, piece ![0, 1536] slices_S3072x3072_S512x512_0_1536 A⟩,
      ⟨S1x512x512, piece ![0, 2048] slices_S3072x3072_S512x512_0_2048 A⟩,
      ⟨S1x512x512, piece ![0, 2560] slices_S3072x3072_S512x512_0_2560 A⟩,
      ⟨S1x512x512, piece ![512, 512] slices_S3072x3072_S512x512_512_512 A⟩,
      ⟨S1x512x512, piece ![512, 1024] slices_S3072x3072_S512x512_512_1024 A⟩,
      ⟨S1x512x512, piece ![512, 1536] slices_S3072x3072_S512x512_512_1536 A⟩,
      ⟨S1x512x512, piece ![512, 2048] slices_S3072x3072_S512x512_512_2048 A⟩,
      ⟨S1x512x512, piece ![512, 2560] slices_S3072x3072_S512x512_512_2560 A⟩,
      ⟨S1x512x512, piece ![1024, 1024] slices_S3072x3072_S512x512_1024_1024 A⟩,
      ⟨S1x512x512, piece ![1024, 1536] slices_S3072x3072_S512x512_1024_1536 A⟩,
      ⟨S1x512x512, piece ![1024, 2048] slices_S3072x3072_S512x512_1024_2048 A⟩,
      ⟨S1x512x512, piece ![1024, 2560] slices_S3072x3072_S512x512_1024_2560 A⟩,
      ⟨S1x512x512, piece ![1536, 1536] slices_S3072x3072_S512x512_1536_1536 A⟩] concatenates_S1x512x512_S1x512x512_S1x512x512_S1x512x512_S1x512x512_S1x512x512_S1x512x512_S1x512x512_S1x512x512_S1x512x512_S1x512x512_S1x512x512_S1x512x512_S1x512x512_S1x512x512_S1x512x512_S16x512x512_d0⟩,
    ⟨S5x512x512, concatenate S5x512x512 0 [⟨S1x512x512, piece ![1536, 2048] slices_S3072x3072_S512x512_1536_2048 A⟩,
      ⟨S1x512x512, piece ![1536, 2560] slices_S3072x3072_S512x512_1536_2560 A⟩,
      ⟨S1x512x512, piece ![2048, 2048] slices_S3072x3072_S512x512_2048_2048 A⟩,
      ⟨S1x512x512, piece ![2048, 2560] slices_S3072x3072_S512x512_2048_2560 A⟩,
      ⟨S1x512x512, piece ![2560, 2560] slices_S3072x3072_S512x512_2560_2560 A⟩] concatenates_S1x512x512_S1x512x512_S1x512x512_S1x512x512_S1x512x512_S5x512x512_d0⟩] concatenates_S16x512x512_S5x512x512_S21x512x512_d0

/-- Reading a stack of blocks of matrices inside its block number `k`. -/
theorem stack_apply (n : ℕ) (xs : List ((s : Shape) × (s.Idx → EReal))) (h : Shape.Concatenates (xs.map (·.1)) ⟨3, ![n, 512, 512]⟩ 0)
    (k : ℕ) (hk : k < xs.length) (p : ℕ) (x₁ : (⟨3, ![p, 512, 512]⟩ : Shape).Idx → EReal) (hxk : xs[k] = ⟨⟨3, ![p, 512, 512]⟩, x₁⟩) (pre : ℕ)
    (hpre : (((xs.take k).map (·.1)).map fun s => if h : s.rank = 3 then s.size ((0 : Fin 3).cast h.symm) else 0).sum = pre)
    (u : Fin n) (v : Fin p) (huv : pre + v.val = u.val) (r q : Fin 512) :
    concatenate ⟨3, ![n, 512, 512]⟩ 0 xs h (ix3 u r q) = x₁ (ix3 v r q) :=
  concatenate_apply_piece 0 xs h (ix3 u r q) k hk _ x₁ hxk rfl pre hpre (ix3 v r q)
    (fun b hb => match b, hb with | ⟨0, _⟩, hb => absurd rfl hb | ⟨1, _⟩, _ => rfl | ⟨2, _⟩, _ => rfl) huv

set_option maxHeartbeats 4000000 in
/-- Tile number `t` of the stack is the tile `(row t, column t)`. -/
theorem tiles_apply (A : S3072x3072.Idx → EReal) (t : Fin 21) (r q : Fin 512) :
    tiles A (ix3 t r q) = A (ix2 (Math.cat (Math.rowN t) r) (Math.cat (Math.colN t) q)) := by
  unfold tiles
  fin_cases t
  · refine Eq.trans (stack_apply 21 _ _ 0 ?hk1 16 ?y1 ?hx1 0 ?hp1 _ 0 ?hv1 r q) ?rest1
    case hk1 => exact Nat.le_of_ble_eq_true rfl
    case hx1 => exact rfl
    case hp1 => exact rfl
    case hv1 => exact rfl
    refine Eq.trans (stack_apply 16 _ _ 0 ?hk2 1 ?y2 ?hx2 0 ?hp2 _ 0 ?hv2 r q) ?rest2
    case hk2 => exact Nat.le_of_ble_eq_true rfl
    case hx2 => exact rfl
    case hp2 => exact rfl
    case hv2 => exact rfl
    exact piece_apply 0 0 _ rfl _ A r q
  · refine Eq.trans (stack_apply 21 _ _ 0 ?hk3 16 ?y3 ?hx3 0 ?hp3 _ 1 ?hv3 r q) ?rest3
    case hk3 => exact Nat.le_of_ble_eq_true rfl
    case hx3 => exact rfl
    case hp3 => exact rfl
    case hv3 => exact rfl
    refine Eq.trans (stack_apply 16 _ _ 1 ?hk4 1 ?y4 ?hx4 1 ?hp4 _ 0 ?hv4 r q) ?rest4
    case hk4 => exact Nat.le_of_ble_eq_true rfl
    case hx4 => exact rfl
    case hp4 => exact rfl
    case hv4 => exact rfl
    exact piece_apply 0 1 _ rfl _ A r q
  · refine Eq.trans (stack_apply 21 _ _ 0 ?hk5 16 ?y5 ?hx5 0 ?hp5 _ 2 ?hv5 r q) ?rest5
    case hk5 => exact Nat.le_of_ble_eq_true rfl
    case hx5 => exact rfl
    case hp5 => exact rfl
    case hv5 => exact rfl
    refine Eq.trans (stack_apply 16 _ _ 2 ?hk6 1 ?y6 ?hx6 2 ?hp6 _ 0 ?hv6 r q) ?rest6
    case hk6 => exact Nat.le_of_ble_eq_true rfl
    case hx6 => exact rfl
    case hp6 => exact rfl
    case hv6 => exact rfl
    exact piece_apply 0 2 _ rfl _ A r q
  · refine Eq.trans (stack_apply 21 _ _ 0 ?hk7 16 ?y7 ?hx7 0 ?hp7 _ 3 ?hv7 r q) ?rest7
    case hk7 => exact Nat.le_of_ble_eq_true rfl
    case hx7 => exact rfl
    case hp7 => exact rfl
    case hv7 => exact rfl
    refine Eq.trans (stack_apply 16 _ _ 3 ?hk8 1 ?y8 ?hx8 3 ?hp8 _ 0 ?hv8 r q) ?rest8
    case hk8 => exact Nat.le_of_ble_eq_true rfl
    case hx8 => exact rfl
    case hp8 => exact rfl
    case hv8 => exact rfl
    exact piece_apply 0 3 _ rfl _ A r q
  · refine Eq.trans (stack_apply 21 _ _ 0 ?hk9 16 ?y9 ?hx9 0 ?hp9 _ 4 ?hv9 r q) ?rest9
    case hk9 => exact Nat.le_of_ble_eq_true rfl
    case hx9 => exact rfl
    case hp9 => exact rfl
    case hv9 => exact rfl
    refine Eq.trans (stack_apply 16 _ _ 4 ?hk10 1 ?y10 ?hx10 4 ?hp10 _ 0 ?hv10 r q) ?rest10
    case hk10 => exact Nat.le_of_ble_eq_true rfl
    case hx10 => exact rfl
    case hp10 => exact rfl
    case hv10 => exact rfl
    exact piece_apply 0 4 _ rfl _ A r q
  · refine Eq.trans (stack_apply 21 _ _ 0 ?hk11 16 ?y11 ?hx11 0 ?hp11 _ 5 ?hv11 r q) ?rest11
    case hk11 => exact Nat.le_of_ble_eq_true rfl
    case hx11 => exact rfl
    case hp11 => exact rfl
    case hv11 => exact rfl
    refine Eq.trans (stack_apply 16 _ _ 5 ?hk12 1 ?y12 ?hx12 5 ?hp12 _ 0 ?hv12 r q) ?rest12
    case hk12 => exact Nat.le_of_ble_eq_true rfl
    case hx12 => exact rfl
    case hp12 => exact rfl
    case hv12 => exact rfl
    exact piece_apply 0 5 _ rfl _ A r q
  · refine Eq.trans (stack_apply 21 _ _ 0 ?hk13 16 ?y13 ?hx13 0 ?hp13 _ 6 ?hv13 r q) ?rest13
    case hk13 => exact Nat.le_of_ble_eq_true rfl
    case hx13 => exact rfl
    case hp13 => exact rfl
    case hv13 => exact rfl
    refine Eq.trans (stack_apply 16 _ _ 6 ?hk14 1 ?y14 ?hx14 6 ?hp14 _ 0 ?hv14 r q) ?rest14
    case hk14 => exact Nat.le_of_ble_eq_true rfl
    case hx14 => exact rfl
    case hp14 => exact rfl
    case hv14 => exact rfl
    exact piece_apply 1 1 _ rfl _ A r q
  · refine Eq.trans (stack_apply 21 _ _ 0 ?hk15 16 ?y15 ?hx15 0 ?hp15 _ 7 ?hv15 r q) ?rest15
    case hk15 => exact Nat.le_of_ble_eq_true rfl
    case hx15 => exact rfl
    case hp15 => exact rfl
    case hv15 => exact rfl
    refine Eq.trans (stack_apply 16 _ _ 7 ?hk16 1 ?y16 ?hx16 7 ?hp16 _ 0 ?hv16 r q) ?rest16
    case hk16 => exact Nat.le_of_ble_eq_true rfl
    case hx16 => exact rfl
    case hp16 => exact rfl
    case hv16 => exact rfl
    exact piece_apply 1 2 _ rfl _ A r q
  · refine Eq.trans (stack_apply 21 _ _ 0 ?hk17 16 ?y17 ?hx17 0 ?hp17 _ 8 ?hv17 r q) ?rest17
    case hk17 => exact Nat.le_of_ble_eq_true rfl
    case hx17 => exact rfl
    case hp17 => exact rfl
    case hv17 => exact rfl
    refine Eq.trans (stack_apply 16 _ _ 8 ?hk18 1 ?y18 ?hx18 8 ?hp18 _ 0 ?hv18 r q) ?rest18
    case hk18 => exact Nat.le_of_ble_eq_true rfl
    case hx18 => exact rfl
    case hp18 => exact rfl
    case hv18 => exact rfl
    exact piece_apply 1 3 _ rfl _ A r q
  · refine Eq.trans (stack_apply 21 _ _ 0 ?hk19 16 ?y19 ?hx19 0 ?hp19 _ 9 ?hv19 r q) ?rest19
    case hk19 => exact Nat.le_of_ble_eq_true rfl
    case hx19 => exact rfl
    case hp19 => exact rfl
    case hv19 => exact rfl
    refine Eq.trans (stack_apply 16 _ _ 9 ?hk20 1 ?y20 ?hx20 9 ?hp20 _ 0 ?hv20 r q) ?rest20
    case hk20 => exact Nat.le_of_ble_eq_true rfl
    case hx20 => exact rfl
    case hp20 => exact rfl
    case hv20 => exact rfl
    exact piece_apply 1 4 _ rfl _ A r q
  · refine Eq.trans (stack_apply 21 _ _ 0 ?hk21 16 ?y21 ?hx21 0 ?hp21 _ 10 ?hv21 r q) ?rest21
    case hk21 => exact Nat.le_of_ble_eq_true rfl
    case hx21 => exact rfl
    case hp21 => exact rfl
    case hv21 => exact rfl
    refine Eq.trans (stack_apply 16 _ _ 10 ?hk22 1 ?y22 ?hx22 10 ?hp22 _ 0 ?hv22 r q) ?rest22
    case hk22 => exact Nat.le_of_ble_eq_true rfl
    case hx22 => exact rfl
    case hp22 => exact rfl
    case hv22 => exact rfl
    exact piece_apply 1 5 _ rfl _ A r q
  · refine Eq.trans (stack_apply 21 _ _ 0 ?hk23 16 ?y23 ?hx23 0 ?hp23 _ 11 ?hv23 r q) ?rest23
    case hk23 => exact Nat.le_of_ble_eq_true rfl
    case hx23 => exact rfl
    case hp23 => exact rfl
    case hv23 => exact rfl
    refine Eq.trans (stack_apply 16 _ _ 11 ?hk24 1 ?y24 ?hx24 11 ?hp24 _ 0 ?hv24 r q) ?rest24
    case hk24 => exact Nat.le_of_ble_eq_true rfl
    case hx24 => exact rfl
    case hp24 => exact rfl
    case hv24 => exact rfl
    exact piece_apply 2 2 _ rfl _ A r q
  · refine Eq.trans (stack_apply 21 _ _ 0 ?hk25 16 ?y25 ?hx25 0 ?hp25 _ 12 ?hv25 r q) ?rest25
    case hk25 => exact Nat.le_of_ble_eq_true rfl
    case hx25 => exact rfl
    case hp25 => exact rfl
    case hv25 => exact rfl
    refine Eq.trans (stack_apply 16 _ _ 12 ?hk26 1 ?y26 ?hx26 12 ?hp26 _ 0 ?hv26 r q) ?rest26
    case hk26 => exact Nat.le_of_ble_eq_true rfl
    case hx26 => exact rfl
    case hp26 => exact rfl
    case hv26 => exact rfl
    exact piece_apply 2 3 _ rfl _ A r q
  · refine Eq.trans (stack_apply 21 _ _ 0 ?hk27 16 ?y27 ?hx27 0 ?hp27 _ 13 ?hv27 r q) ?rest27
    case hk27 => exact Nat.le_of_ble_eq_true rfl
    case hx27 => exact rfl
    case hp27 => exact rfl
    case hv27 => exact rfl
    refine Eq.trans (stack_apply 16 _ _ 13 ?hk28 1 ?y28 ?hx28 13 ?hp28 _ 0 ?hv28 r q) ?rest28
    case hk28 => exact Nat.le_of_ble_eq_true rfl
    case hx28 => exact rfl
    case hp28 => exact rfl
    case hv28 => exact rfl
    exact piece_apply 2 4 _ rfl _ A r q
  · refine Eq.trans (stack_apply 21 _ _ 0 ?hk29 16 ?y29 ?hx29 0 ?hp29 _ 14 ?hv29 r q) ?rest29
    case hk29 => exact Nat.le_of_ble_eq_true rfl
    case hx29 => exact rfl
    case hp29 => exact rfl
    case hv29 => exact rfl
    refine Eq.trans (stack_apply 16 _ _ 14 ?hk30 1 ?y30 ?hx30 14 ?hp30 _ 0 ?hv30 r q) ?rest30
    case hk30 => exact Nat.le_of_ble_eq_true rfl
    case hx30 => exact rfl
    case hp30 => exact rfl
    case hv30 => exact rfl
    exact piece_apply 2 5 _ rfl _ A r q
  · refine Eq.trans (stack_apply 21 _ _ 0 ?hk31 16 ?y31 ?hx31 0 ?hp31 _ 15 ?hv31 r q) ?rest31
    case hk31 => exact Nat.le_of_ble_eq_true rfl
    case hx31 => exact rfl
    case hp31 => exact rfl
    case hv31 => exact rfl
    refine Eq.trans (stack_apply 16 _ _ 15 ?hk32 1 ?y32 ?hx32 15 ?hp32 _ 0 ?hv32 r q) ?rest32
    case hk32 => exact Nat.le_of_ble_eq_true rfl
    case hx32 => exact rfl
    case hp32 => exact rfl
    case hv32 => exact rfl
    exact piece_apply 3 3 _ rfl _ A r q
  · refine Eq.trans (stack_apply 21 _ _ 1 ?hk33 5 ?y33 ?hx33 16 ?hp33 _ 0 ?hv33 r q) ?rest33
    case hk33 => exact Nat.le_of_ble_eq_true rfl
    case hx33 => exact rfl
    case hp33 => exact rfl
    case hv33 => exact rfl
    refine Eq.trans (stack_apply 5 _ _ 0 ?hk34 1 ?y34 ?hx34 0 ?hp34 _ 0 ?hv34 r q) ?rest34
    case hk34 => exact Nat.le_of_ble_eq_true rfl
    case hx34 => exact rfl
    case hp34 => exact rfl
    case hv34 => exact rfl
    exact piece_apply 3 4 _ rfl _ A r q
  · refine Eq.trans (stack_apply 21 _ _ 1 ?hk35 5 ?y35 ?hx35 16 ?hp35 _ 1 ?hv35 r q) ?rest35
    case hk35 => exact Nat.le_of_ble_eq_true rfl
    case hx35 => exact rfl
    case hp35 => exact rfl
    case hv35 => exact rfl
    refine Eq.trans (stack_apply 5 _ _ 1 ?hk36 1 ?y36 ?hx36 1 ?hp36 _ 0 ?hv36 r q) ?rest36
    case hk36 => exact Nat.le_of_ble_eq_true rfl
    case hx36 => exact rfl
    case hp36 => exact rfl
    case hv36 => exact rfl
    exact piece_apply 3 5 _ rfl _ A r q
  · refine Eq.trans (stack_apply 21 _ _ 1 ?hk37 5 ?y37 ?hx37 16 ?hp37 _ 2 ?hv37 r q) ?rest37
    case hk37 => exact Nat.le_of_ble_eq_true rfl
    case hx37 => exact rfl
    case hp37 => exact rfl
    case hv37 => exact rfl
    refine Eq.trans (stack_apply 5 _ _ 2 ?hk38 1 ?y38 ?hx38 2 ?hp38 _ 0 ?hv38 r q) ?rest38
    case hk38 => exact Nat.le_of_ble_eq_true rfl
    case hx38 => exact rfl
    case hp38 => exact rfl
    case hv38 => exact rfl
    exact piece_apply 4 4 _ rfl _ A r q
  · refine Eq.trans (stack_apply 21 _ _ 1 ?hk39 5 ?y39 ?hx39 16 ?hp39 _ 3 ?hv39 r q) ?rest39
    case hk39 => exact Nat.le_of_ble_eq_true rfl
    case hx39 => exact rfl
    case hp39 => exact rfl
    case hv39 => exact rfl
    refine Eq.trans (stack_apply 5 _ _ 3 ?hk40 1 ?y40 ?hx40 3 ?hp40 _ 0 ?hv40 r q) ?rest40
    case hk40 => exact Nat.le_of_ble_eq_true rfl
    case hx40 => exact rfl
    case hp40 => exact rfl
    case hv40 => exact rfl
    exact piece_apply 4 5 _ rfl _ A r q
  · refine Eq.trans (stack_apply 21 _ _ 1 ?hk41 5 ?y41 ?hx41 16 ?hp41 _ 4 ?hv41 r q) ?rest41
    case hk41 => exact Nat.le_of_ble_eq_true rfl
    case hx41 => exact rfl
    case hp41 => exact rfl
    case hv41 => exact rfl
    refine Eq.trans (stack_apply 5 _ _ 4 ?hk42 1 ?y42 ?hx42 4 ?hp42 _ 0 ?hv42 r q) ?rest42
    case hk42 => exact Nat.le_of_ble_eq_true rfl
    case hx42 => exact rfl
    case hp42 => exact rfl
    case hv42 => exact rfl
    exact piece_apply 5 5 _ rfl _ A r q

/-! ## The masks -/

theorem word_iff (a b : ℕ) (ha : a < 3072) (hb : b < 3072) : BitVec.ofNat 32 a = BitVec.ofNat 32 b ↔ a = b := by
  constructor
  · intro h
    have := congrArg BitVec.toNat h
    simp only [BitVec.toNat_ofNat] at this
    omega
  · exact congrArg _

/-- The diagonal's mask, -/
def diagR : IVec S3072x3072 1 := cmpi .eq (iotaInDim S3072x3072 32 0) (iotaInDim S3072x3072 32 1)
/-- and the mask of the tiles below it. -/
def belowR : IVec S3072x3072 1 :=
  cmpi .sgt (Host.divsi (iotaInDim S3072x3072 32 0) (broadcastInDim S3072x3072 ![] bcast_S_S3072x3072 (constantI S_ 32 512#32)))
    (Host.divsi (iotaInDim S3072x3072 32 1) (broadcastInDim S3072x3072 ![] bcast_S_S3072x3072 (constantI S_ 32 512#32)))

theorem diagR_apply (i j : Fin 3072) (A B : EReal) : Scalar.select (diagR (ix2 i j)) A B = if i = j then A else B := by
  have h : diagR (ix2 i j) = BitVec.ofBool (decide (BitVec.ofNat 32 i.val = BitVec.ofNat 32 j.val)) := by
    show IntOp.cmpi .eq (BitVec.ofNat 32 i.val) (BitVec.ofNat 32 j.val) = _
    rw [WordCmp.cmpi_eq_eq]
  rw [h]
  have e := word_iff i.val j.val i.isLt j.isLt
  by_cases h1 : i = j
  · subst h1; simp [Scalar.select]
  · simp [Scalar.select, h1, e, Fin.val_inj]

theorem div_tile : ∀ i : Fin 3072, IntOp.divsi .host (BitVec.ofNat 32 i.val) 512#32 = BitVec.ofNat 32 (Math.tile i).val := by
  intro i
  have hi := i.isLt
  have hc : ¬ IntOp.SDivCorner (BitVec.ofNat 32 i.val) 512#32 := by
    unfold IntOp.SDivCorner
    rintro (h | ⟨h, h'⟩)
    · exact absurd h (by decide)
    · exact absurd h' (by decide)
  unfold IntOp.divsi
  rw [if_neg hc]
  apply BitVec.eq_of_toNat_eq
  have h1 : (BitVec.ofNat 32 i.val).msb = false := by
    rw [BitVec.msb_eq_false_iff_two_mul_lt, BitVec.toNat_ofNat]; omega
  rw [BitVec.sdiv_eq, h1, show (512#32 : BitVec 32).msb = false from by decide]
  simp only [BitVec.udiv_eq, BitVec.toNat_udiv, BitVec.toNat_ofNat]
  show (i.val % 2 ^ 32) / (512 % 2 ^ 32) = (i.val / 512) % 2 ^ 32
  rw [Nat.mod_eq_of_lt (show i.val < 2 ^ 32 by omega), Nat.mod_eq_of_lt (show 512 < 2 ^ 32 by omega)]
  omega
theorem sgt_tile : ∀ I J : Fin 6, IntOp.cmpi .sgt (BitVec.ofNat 32 I.val) (BitVec.ofNat 32 J.val) = BitVec.ofBool (decide (J < I)) := by decide

theorem belowR_apply (i j : Fin 3072) (A B : EReal) :
    Scalar.select (belowR (ix2 i j)) A B = if Math.tile j < Math.tile i then A else B := by
  have h : belowR (ix2 i j) = BitVec.ofBool (decide (Math.tile j < Math.tile i)) := by
    show IntOp.cmpi .sgt (IntOp.divsi .host (BitVec.ofNat 32 i.val) 512#32) (IntOp.divsi .host (BitVec.ofNat 32 j.val) 512#32) = _
    rw [div_tile, div_tile, sgt_tile]
  rw [h]
  by_cases h1 : Math.tile j < Math.tile i <;> simp [Scalar.select, h1]

/-- A mask broadcast over the batches. -/
theorem bmask_apply (M : IVec S3072x3072 1) (k : Fin 4) (i j : Fin 3072) :
    broadcastInDim S4x3072x3072 ![1, 2] bcast_S3072x3072_S4x3072x3072_1_2 M (ix3 k i j) = M (ix2 i j) :=
  broadcastInDim_apply _ _ _ _ (ix2 i j) fun a => match a with | ⟨0, _⟩ => rfl | ⟨1, _⟩ => rfl

/-! ## The products -/

theorem dot_batch (A B : S4x4096x3072.Idx → EReal) (acc : S4x3072x3072.Idx → EReal) (k : Fin 4) (i j : Fin 3072) :
    Ideal.matmul dot_S4x4096x3072_S4x4096x3072_S4x3072x3072_1_1_2_2_0_0 A B acc (ix3 k i j)
      = acc (ix3 k i j) + ∑ s : Fin 4096, A (ix3 k s i) * B (ix3 k s j) := by
  unfold Ideal.matmul
  rw [← Equiv.sum_comp (contrEquiv1 dot_S4x4096x3072_S4x4096x3072_S4x3072x3072_1_1_2_2_0_0 4096 rfl rfl).symm]
  congr 1
  refine Finset.sum_congr rfl fun s _ => ?_
  congr 1
  · congr 1; funext a; match a with | ⟨0, _⟩ => rfl | ⟨1, _⟩ => rfl | ⟨2, _⟩ => rfl
  · congr 1; funext a; match a with | ⟨0, _⟩ => rfl | ⟨1, _⟩ => rfl | ⟨2, _⟩ => rfl
theorem dot_diag (A : S4x3072.Idx → EReal) (B : S4x3072x256.Idx → EReal) (acc : S3072x256.Idx → EReal) (i : Fin 3072) (o : Fin 256) :
    Ideal.matmul dot_S4x3072_S4x3072x256_S3072x256_0_0_n_2_1_1 A B acc (ix2 i o)
      = acc (ix2 i o) + ∑ k : Fin 4, A (ix2 k i) * B (ix3 k i o) := by
  unfold Ideal.matmul
  rw [← Equiv.sum_comp (contrEquiv1 dot_S4x3072_S4x3072x256_S3072x256_0_0_n_2_1_1 4 rfl rfl).symm]
  congr 1
  refine Finset.sum_congr rfl fun s _ => ?_
  congr 1
  · congr 1; funext a; match a with | ⟨0, _⟩ => rfl | ⟨1, _⟩ => rfl
  · congr 1; funext a; match a with | ⟨0, _⟩ => rfl | ⟨1, _⟩ => rfl | ⟨2, _⟩ => rfl
theorem dot_sum (A : S4x3072x3072.Idx → EReal) (B : S4x3072x256.Idx → EReal) (acc : S3072x256.Idx → EReal) (i : Fin 3072) (o : Fin 256) :
    Ideal.matmul dot_S4x3072x3072_S4x3072x256_S3072x256_20_10_1_2_n_n A B acc (ix2 i o)
      = acc (ix2 i o) + ∑ k : Fin 4, ∑ j : Fin 3072, A (ix3 k i j) * B (ix3 k j o) := by
  unfold Ideal.matmul
  rw [sum_contr2 dot_S4x3072x3072_S4x3072x256_S3072x256_20_10_1_2_n_n 3072 4 rfl rfl rfl, Finset.sum_comm]
  congr 1
  refine Finset.sum_congr rfl fun k _ => Finset.sum_congr rfl fun j _ => ?_
  congr 1
  · congr 1; funext a; match a with | ⟨0, _⟩ => rfl | ⟨1, _⟩ => rfl | ⟨2, _⟩ => rfl
  · congr 1; funext a; match a with | ⟨0, _⟩ => rfl | ⟨1, _⟩ => rfl | ⟨2, _⟩ => rfl

/-! ## The stages -/

variable (x : FVec Ideal S4x4096x3072 .bf16) (w : IVec S4x3072x256 8) (s : FVec Ideal S4x256 .f32)

/-- The arguments by index. -/
def xR (k : Fin 4) (t : Fin 4096) (i : Fin 3072) : EReal := x (ix3 k t i)
def wR (o : Fin 256) (k : Fin 4) (i : Fin 3072) : EReal := ((BitVec.toInt (w (ix3 k i o)) : ℝ) : EReal) * s (ix2 k o)

/-- The batches' Gram matrices, -/
def gramR : FVec Ideal S4x3072x3072 .f32 :=
  Host.divf (Host.dotGeneral dot_S4x4096x3072_S4x4096x3072_S4x3072x3072_1_1_2_2_0_0 none x x)
    (broadcastInDim S4x3072x3072 ![] bcast_S_S4x3072x3072 (constant S_ .f32 0x45800000#32))
theorem gramR_apply (k : Fin 4) (i j : Fin 3072) : gramR x (ix3 k i j) = (Math.ggram (xR x) k i j : EReal) := by
  unfold gramR Math.ggram Math.gram
  refine (hostDivf_apply _ _ _).trans ?_
  have e : broadcastInDim S4x3072x3072 ![] bcast_S_S4x3072x3072 (constant S_ .f32 0x45800000#32 : FVec Ideal S_ .f32) (ix3 k i j) = ((4096 : ℝ) : EReal) :=
    (broadcastInDim_scalar_apply _ _ _).trans lit_seq
  rw [e]
  unfold Ideal.div
  rw [if_neg (by exact_mod_cast (by norm_num : (4096 : ℝ) ≠ 0))]
  refine congrArg (fun a : EReal => a * _) ?_
  exact (dot_batch _ _ _ k i j).trans (zero_add _)

/-- their diagonals, -/
def diagsR : FVec Ideal S4x3072 .f32 :=
  Host.reduceAdd (select (broadcastInDim S4x3072x3072 ![1, 2] bcast_S3072x3072_S4x3072x3072_1_2 diagR) (gramR x)
    (broadcastInDim S4x3072x3072 ![] bcast_S_S4x3072x3072 (id (constant S_ .f32 0x00000000#32)))) (constant S_ .f32 0x00000000#32)
    reducesTo_S4x3072x3072_S4x3072_d2 h_S_
theorem zeros_apply (k : Fin 4) (i j : Fin 3072) :
    broadcastInDim S4x3072x3072 ![] bcast_S_S4x3072x3072 (id (constant S_ .f32 0x00000000#32) : FVec Ideal S_ .f32) (ix3 k i j) = (0 : EReal) :=
  (broadcastInDim_scalar_apply _ _ _).trans lit_zero
theorem diags_apply (k : Fin 4) (i j : Fin 3072) :
    select (broadcastInDim S4x3072x3072 ![1, 2] bcast_S3072x3072_S4x3072x3072_1_2 diagR) (gramR x)
      (broadcastInDim S4x3072x3072 ![] bcast_S_S4x3072x3072 (id (constant S_ .f32 0x00000000#32) : FVec Ideal S_ .f32)) (ix3 k i j)
      = (if i = j then Math.ggram (xR x) k i j else (0 : EReal)) := by
  refine (select_apply _ _ _ _).trans ?_
  rw [bmask_apply, zeros_apply, gramR_apply]
  exact diagR_apply i j _ _
theorem diagsR_apply (k : Fin 4) (i : Fin 3072) : diagsR x (ix2 k i) = (Math.ggram (xR x) k i i : EReal) := by
  unfold diagsR
  refine (hostReduceAdd_apply _ _ _ _ _).trans ?_
  refine (Ideal.hostReduceAdd_single reducesTo_S4x3072x3072_S4x3072_d2 (by decide) _ _ _).trans ?_
  have hz : (constant S_ .f32 0x00000000#32 : FVec Ideal S_ .f32) (Shape.Idx.first h_S_) = (0 : EReal) := lit_zero
  rw [hz, zero_add]
  refine Eq.trans (b := ∑ j : Fin 3072, (if i = j then (Math.ggram (xR x) k i j : EReal) else 0)) ?_ ?_
  · refine Finset.sum_congr rfl fun j _ => ?_
    have hl : (Shape.Reduces.lift (s := S4x3072x3072) (a := 2) (t := S4x3072) (by decide) (ix2 k i) j : S4x3072x3072.Idx) = ix3 k i j := by
      funext a; match a with | ⟨0, _⟩ => rfl | ⟨1, _⟩ => rfl | ⟨2, _⟩ => rfl
    refine (congrArg _ hl).trans ?_
    exact diags_apply x k i j
  · rw [Finset.sum_ite_eq]; simp

/-- the merged matrix, -/
def mergedR : FVec Ideal S3072x3072 .f32 :=
  addf (mulf (broadcastInDim S3072x3072 ![] bcast_S_S3072x3072 (constant S_ .f32 0x3F666666#32))
      (Host.reduceAdd (gramR x) (constant S_ .f32 0x00000000#32) reducesTo_S4x3072x3072_S3072x3072_d0 h_S_))
    (mulf (broadcastInDim S3072x3072 ![] bcast_S_S3072x3072 (constant S_ .f32 0x3DCCCCD0#32))
      (select diagR (broadcastInDim S3072x3072 ![0, 1] bcast_S3072x1_S3072x3072_0_1 (broadcastInDim S3072x1 ![0] bcast_S3072_S3072x1_0
        (Host.reduceAdd (diagsR x) (constant S_ .f32 0x00000000#32) reducesTo_S4x3072_S3072_d0 h_S_)))
        (broadcastInDim S3072x3072 ![] bcast_S_S3072x3072 (id (constant S_ .f32 0x00000000#32)))))
theorem mergedR_apply (i j : Fin 3072) : mergedR x (ix2 i j)
    = ((Math.aR : EReal) * (∑ k, Math.ggram (xR x) k i j) + (Math.bR : EReal) * (if i = j then ∑ k, Math.ggram (xR x) k i i else 0) : EReal) := by
  have hz : (constant S_ .f32 0x00000000#32 : FVec Ideal S_ .f32) (Shape.Idx.first h_S_) = (0 : EReal) := lit_zero
  unfold mergedR
  refine (addf_apply _ _ _).trans ?_
  refine congrArg₂ (fun a b : EReal => a + b) ((mulf_apply _ _ _).trans (congrArg₂ (fun a b : EReal => a * b) ?_ ?_))
    ((mulf_apply _ _ _).trans (congrArg₂ (fun a b : EReal => a * b) ?_ ?_))
  · exact (broadcastInDim_scalar_apply _ _ _).trans lit_alpha
  · refine (hostReduceAdd_apply _ _ _ _ _).trans ?_
    refine (Ideal.hostReduceAdd_single reducesTo_S4x3072x3072_S3072x3072_d0 (by decide) _ _ _).trans ?_
    rw [hz, zero_add]
    refine Finset.sum_congr rfl fun k _ => ?_
    have hl : (Shape.Reduces.lift (s := S4x3072x3072) (a := 0) (t := S3072x3072) (by decide) (ix2 i j) k : S4x3072x3072.Idx) = ix3 k i j := by
      funext a; match a with | ⟨0, _⟩ => rfl | ⟨1, _⟩ => rfl | ⟨2, _⟩ => rfl
    exact (congrArg _ hl).trans (gramR_apply x k i j)
  · exact (broadcastInDim_scalar_apply _ _ _).trans lit_beta
  · have e0 : broadcastInDim S3072x3072 ![] bcast_S_S3072x3072 (id (constant S_ .f32 0x00000000#32) : FVec Ideal S_ .f32) (ix2 i j) = (0 : EReal) :=
      (broadcastInDim_scalar_apply _ _ _).trans lit_zero
    have e1 : broadcastInDim S3072x3072 ![0, 1] bcast_S3072x1_S3072x3072_0_1 (broadcastInDim S3072x1 ![0] bcast_S3072_S3072x1_0
        (Host.reduceAdd (diagsR x) (constant S_ .f32 0x00000000#32) reducesTo_S4x3072_S3072_d0 h_S_)) (ix2 i j) = (∑ k, Math.ggram (xR x) k i i : EReal) := by
      refine (broadcastInDim_apply _ _ _ _ (ix2 i 0) fun a => match a with | ⟨0, _⟩ => rfl | ⟨1, _⟩ => rfl).trans ?_
      refine (broadcastInDim_apply _ _ _ _ (ix1 i) fun a => match a with | ⟨0, _⟩ => rfl).trans ?_
      refine (hostReduceAdd_apply _ _ _ _ _).trans ?_
      refine (Ideal.hostReduceAdd_single reducesTo_S4x3072_S3072_d0 (by decide) _ _ _).trans ?_
      rw [hz, zero_add]
      refine Finset.sum_congr rfl fun k _ => ?_
      have hl : (Shape.Reduces.lift (s := S4x3072) (a := 0) (t := S3072) (by decide) (ix1 i) k : S4x3072.Idx) = ix2 k i := by
        funext a; match a with | ⟨0, _⟩ => rfl | ⟨1, _⟩ => rfl
      exact (congrArg _ hl).trans (diagsR_apply x k i)
    refine Eq.trans (b := Scalar.select (diagR (ix2 i j)) _ _) rfl ?_
    rw [e0, e1]
    exact diagR_apply i j _ _

/-- the dequantized weights, -/
def weightR : FVec Ideal S4x3072x256 .f32 :=
  extf .f32 (mulf (truncf .bf16 (sitofp .f32 (extsi 32 w natLt_8_32)) bitsLt_bf16_f32)
    (broadcastInDim S4x3072x256 ![0, 1, 2] bcast_S4x1x256_S4x3072x256_0_1_2 (broadcastInDim S4x1x256 ![0, 2] bcast_S4x256_S4x1x256_0_2
      (truncf .bf16 s bitsLt_bf16_f32)))) bitsLt_bf16_f32
theorem weightR_apply (k : Fin 4) (i : Fin 3072) (o : Fin 256) : weightR w s (ix3 k i o) = (wR w s o k i : EReal) := by
  unfold weightR wR
  refine Eq.trans (b := (((BitVec.toInt ((w (ix3 k i o)).signExtend 32) : ℝ) : EReal)
    * (broadcastInDim S4x3072x256 ![0, 1, 2] bcast_S4x1x256_S4x3072x256_0_1_2 (broadcastInDim S4x1x256 ![0, 2] bcast_S4x256_S4x1x256_0_2
      (truncf .bf16 s bitsLt_bf16_f32)) (ix3 k i o) : EReal) : EReal)) rfl ?_
  refine congrArg₂ (fun a b : EReal => a * b) ?_ ?_
  · rw [BitVec.toInt_signExtend_of_le (by omega)]
  · refine (broadcastInDim_apply _ _ _ _ (ix3 k 0 o) fun a => match a with | ⟨0, _⟩ => rfl | ⟨1, _⟩ => rfl | ⟨2, _⟩ => rfl).trans ?_
    exact (broadcastInDim_apply _ _ _ _ (ix2 k o) fun a => match a with | ⟨0, _⟩ => rfl | ⟨1, _⟩ => rfl)

/-- and the two addends of the right-hand side. -/
def rhsR : FVec Ideal S3072x256 .f32 :=
  addf (mulf (broadcastInDim S3072x256 ![] bcast_S_S3072x256 (constant S_ .f32 0x3F666666#32))
      (Host.dotGeneral dot_S4x3072x3072_S4x3072x256_S3072x256_20_10_1_2_n_n (some .fp32)
        (select (broadcastInDim S4x3072x3072 ![1, 2] bcast_S3072x3072_S4x3072x3072_1_2 belowR)
          (broadcastInDim S4x3072x3072 ![] bcast_S_S4x3072x3072 (id (constant S_ .f32 0x00000000#32))) (gramR x)) (weightR w s)))
    (mulf (broadcastInDim S3072x256 ![] bcast_S_S3072x256 (constant S_ .f32 0x3DCCCCD0#32))
      (Host.dotGeneral dot_S4x3072_S4x3072x256_S3072x256_0_0_n_2_1_1 (some .fp32) (diagsR x) (weightR w s)))
theorem upper_apply (k : Fin 4) (i j : Fin 3072) :
    select (broadcastInDim S4x3072x3072 ![1, 2] bcast_S3072x3072_S4x3072x3072_1_2 belowR)
      (broadcastInDim S4x3072x3072 ![] bcast_S_S4x3072x3072 (id (constant S_ .f32 0x00000000#32) : FVec Ideal S_ .f32)) (gramR x) (ix3 k i j)
      = (if Math.tile j < Math.tile i then (0 : EReal) else Math.ggram (xR x) k i j) := by
  refine (select_apply _ _ _ _).trans ?_
  rw [bmask_apply, zeros_apply, gramR_apply]
  exact belowR_apply i j _ _
theorem lower_apply (k : Fin 4) (i j : Fin 3072) :
    select (broadcastInDim S4x3072x3072 ![1, 2] bcast_S3072x3072_S4x3072x3072_1_2 belowR) (gramR x)
      (broadcastInDim S4x3072x3072 ![] bcast_S_S4x3072x3072 (id (constant S_ .f32 0x00000000#32) : FVec Ideal S_ .f32)) (ix3 k i j)
      = (if Math.tile j < Math.tile i then Math.ggram (xR x) k i j else (0 : EReal)) := by
  refine (select_apply _ _ _ _).trans ?_
  rw [bmask_apply, zeros_apply, gramR_apply]
  exact belowR_apply i j _ _
theorem rhsR_apply (i : Fin 3072) (o : Fin 256) : rhsR x w s (ix2 i o)
    = ((Math.aR : EReal) * (∑ k, ∑ j, (if Math.tile j < Math.tile i then 0 else Math.ggram (xR x) k i j) * wR w s o k j)
      + (Math.bR : EReal) * (∑ k, Math.ggram (xR x) k i i * wR w s o k i) : EReal) := by
  unfold rhsR
  refine (addf_apply _ _ _).trans ?_
  refine congrArg₂ (fun a b : EReal => a + b) ((mulf_apply _ _ _).trans (congrArg₂ (fun a b : EReal => a * b) ?_ ?_))
    ((mulf_apply _ _ _).trans (congrArg₂ (fun a b : EReal => a * b) ?_ ?_))
  · exact (broadcastInDim_scalar_apply _ _ _).trans lit_alpha
  · refine ((dot_sum _ _ _ i o).trans (zero_add _)).trans ?_
    refine Finset.sum_congr rfl fun k _ => Finset.sum_congr rfl fun j _ => ?_
    exact congrArg₂ (fun a b : EReal => a * b) (upper_apply x k i j) (weightR_apply w s k j o)
  · exact (broadcastInDim_scalar_apply _ _ _).trans lit_beta
  · refine ((dot_diag _ _ _ i o).trans (zero_add _)).trans ?_
    refine Finset.sum_congr rfl fun k _ => ?_
    exact congrArg₂ (fun a b : EReal => a * b) (diagsR_apply x k i) (weightR_apply w s k i o)

def rhstR : FVec Ideal S256x3072 .f32 :=
  transpose S256x3072 [1, 0] (mulf (broadcastInDim S3072x256 ![] bcast_S_S3072x256 (constant S_ .f32 0x3F666666#32))
    (Host.dotGeneral dot_S4x3072x3072_S4x3072x256_S3072x256_20_10_1_2_n_n (some .fp32)
      (select (broadcastInDim S4x3072x3072 ![1, 2] bcast_S3072x3072_S4x3072x3072_1_2 belowR) (gramR x)
        (broadcastInDim S4x3072x3072 ![] bcast_S_S4x3072x3072 (id (constant S_ .f32 0x00000000#32)))) (weightR w s))) transposes_S3072x256_S256x3072_1_0
theorem rhstR_apply (o : Fin 256) (i : Fin 3072) : rhstR x w s (ix2 o i)
    = ((Math.aR : EReal) * (∑ k, ∑ j, (if Math.tile j < Math.tile i then Math.ggram (xR x) k i j else 0) * wR w s o k j) : EReal) := by
  unfold rhstR
  refine (transpose_apply _ _ _ _ (ix2 i o) fun a => match a with | ⟨0, _⟩ => rfl | ⟨1, _⟩ => rfl).trans ?_
  refine (mulf_apply _ _ _).trans (congrArg₂ (fun a b : EReal => a * b) ?_ ?_)
  · exact (broadcastInDim_scalar_apply _ _ _).trans lit_alpha
  · refine ((dot_sum _ _ _ i o).trans (zero_add _)).trans ?_
    refine Finset.sum_congr rfl fun k _ => Finset.sum_congr rfl fun j _ => ?_
    exact congrArg₂ (fun a b : EReal => a * b) (lower_apply x k i j) (weightR_apply w s k j o)

end Cert.ReferenceIdeal.Value

end
-- ==== Proof.Value.RefRun.lean ====
/- The reference program's run returns the stages of `Ref`. -/
module

public import proofs.«01_k».proof.Proof.Value.Ref

@[expose] public section

noncomputable section

namespace Cert.ReferenceIdeal.Value

open Idealize.SL.Sem Cert.ReferenceIdeal Cert.ReferenceIdeal.Gen Idealize.ShloMosaic Idealize.ShloMosaic.TcCoe Idealize.ShloMosaic.ValueIdx

/-- The run returns the stages above. -/
theorem res_eq (m : (ℓ : Loc nD τ sig) → Buf (Elt Ideal) ℓ) (c : Dev nD) :
    res_main_v88 m c = tiles (mergedR (m ((c.tc : Thread nD τ).loc main_arg0))) := by
  unfold res_main_v88 tiles piece mergedR diagsR gramR diagR
  rfl
theorem run_stages (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v88) = tiles (mergedR (m ((c.tc : Thread nD τ).loc main_arg0)))
      ∧ r.2.mem ((c.tc : Thread nD τ).loc main_v40) = rhsR (m ((c.tc : Thread nD τ).loc main_arg0)) (m ((c.tc : Thread nD τ).loc main_arg1)) (m ((c.tc : Thread nD τ).loc main_arg2))
      ∧ r.2.mem ((c.tc : Thread nD τ).loc main_v43) = rhstR (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (res_eq m c), by
      refine (h c).2.1.trans ?_
      unfold rhsR diagsR weightR gramR belowR diagR
      rfl, by
      refine (h c).2.2.1.trans ?_
      unfold rhstR weightR gramR belowR
      rfl, (h c).2.2.2⟩) (run (F := Ideal) m ρ)

end Cert.ReferenceIdeal.Value

end
-- ==== Proof.Value.Main.lean ====
/- The kernel and the reference end with equal results, over the extended reals and for finite activations. -/
module

public import proofs.«01_k».proof.Defs
public import proofs.«01_k».proof.Proof.Value.Final
public import proofs.«01_k».proof.Proof.Value.RefRun

@[expose] public section

noncomputable section

namespace Cert.Proof

open Idealize.ShloMosaic Idealize.ShloMosaic.TcCoe Idealize.ShloMosaic.ValueIdx Idealize.SL.Sem
open Cert.KernelIdeal.Gen Cert.ReferenceIdeal.Value
open scoped BigOperators

/-- The precondition's side condition. -/
theorem pre_facts : Cert.Pre_x_finite.Facts := ⟨by decide⟩

/-- The largest finite bf16 is a real number. -/
theorem lit_max : Ideal.ofBits .bf16 0x7F7F#16 = (((255 * 2 ^ 120 : ℝ)) : EReal) := by
  simp [Ideal.ofBits, Ideal.ieee, -EReal.coe_mul]

/-- A value that the precondition's comparison accepts is a real number. -/
theorem real_of_cmp (x : EReal) (h : BitVec.ofBool (decide (max x (-x) ≤ Ideal.ofBits .bf16 0x7F7F#16)) = 1#1) : ∃ r : ℝ, x = r := by
  have h' : max x (-x) ≤ (((255 * 2 ^ 120 : ℝ)) : EReal) := by
    rw [lit_max] at h
    by_contra hn
    rw [decide_eq_false hn] at h
    exact absurd h (by decide)
  induction x using EReal.rec with
  | bot => exact absurd (top_le_iff.mp ((le_max_right (⊥ : EReal) (-⊥)).trans h')) (EReal.coe_ne_top _)
  | coe r => exact ⟨r, rfl⟩
  | top => exact absurd (top_le_iff.mp ((le_max_left (⊤ : EReal) (-⊤)).trans h')) (EReal.coe_ne_top _)

variable (m : (ℓ : Loc Cert.KernelIdeal.nD Cert.KernelIdeal.τ Cert.KernelIdeal.sig) → Buf (Elt Ideal) ℓ)

/-- The precondition makes every activation a real number. -/
theorem x_real (h : Cert.Pre_KernelIdeal_x_finite (hPre_x_finite := pre_facts) m) (c : Dev Cert.KernelIdeal.nD)
    (k : Fin 4) (s : Fin 4096) (i : Fin 3072) : ∃ r : ℝ, X m c k s i = r :=
  real_of_cmp _ (congrFun (h c) (ix3 k s i))

variable (hX : ∀ c k s i, ∃ r : ℝ, X m c k s i = r)

include hX in
/-- The tiles of the merged matrix, -/
theorem value_a (hO : Ok m) (c : Dev Cert.KernelIdeal.nD) :
    G5 m hO c = tiles (mergedR (m ((c.tc : Thread Cert.KernelIdeal.nD Cert.KernelIdeal.τ).loc Cert.KernelIdeal.main_arg0))) := by
  funext j
  obtain ⟨t, r, q, rfl⟩ : ∃ (t : Fin 21) (r q : Fin 512), j = ix3 t r q :=
    ⟨j 0, j 1, j 2, by funext a; match a with | ⟨0, _⟩ => rfl | ⟨1, _⟩ => rfl | ⟨2, _⟩ => rfl⟩
  refine Eq.trans (b := acc5 m hO c (4 * t.val + 3) (ix3 0 r q)) rfl ?_
  refine (acc5_last m hO c t r q).trans ?_
  refine Eq.trans ?_ (tiles_apply _ t r q).symm
  refine Eq.trans ?_ (mergedR_apply _ _ _).symm
  exact Math.merged (X m c) (hX c) _ _

include hX in
/-- the right-hand side, -/
theorem value_p (hO : Ok m) (c : Dev Cert.KernelIdeal.nD) : (acc6 m hO c 83 : Cert.KernelIdeal.S3072x256.Idx → EReal)
    = rhsR (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) := by
  funext j
  obtain ⟨i, o, rfl⟩ : ∃ (i : Fin 3072) (o : Fin 256), j = ix2 i o :=
    ⟨j 0, j 1, by funext a; match a with | ⟨0, _⟩ => rfl | ⟨1, _⟩ => rfl⟩
  refine (acc6_apply m hX hO c i o 83 (by decide)).trans ?_
  refine Eq.trans ?_ (rhsR_apply _ _ _ i o).symm
  refine Eq.trans ?_ (Math.rhs_upper (X m c) (hX c) (Wt m c o) (fun j => Math.tile j < Math.tile i) i (lt_irrefl _))
  refine (Math.sum_points fun u => add6 m c (gp u) i o).trans (Finset.sum_congr rfl fun k _ => ?_)
  refine Eq.trans (b := ∑ t, if Math.rowN t = Math.tile i then
    (fun J => ∑ l, Math.hgram (X m c) k i (Math.cat J l) * Wt m c o k (Math.cat J l)) (Math.colN t) else 0) ?_ ?_
  · refine Finset.sum_congr rfl fun t _ => ?_
    unfold add6
    rw [tt_gp _ t k rfl, kk_gp _ t k rfl]
  · refine (Math.sum_row (Math.tile i) fun J => ∑ l, Math.hgram (X m c) k i (Math.cat J l) * Wt m c o k (Math.cat J l)).trans ?_
    rw [Math.sum_cat]
    refine Finset.sum_congr rfl fun J _ => ?_
    simp only [Math.tile_cat]
    by_cases h : J < Math.tile i
    · simp [h]
    · simp [h]

include hX in
/-- and its transposed part. -/
theorem value_pt (hO : Ok m) (c : Dev Cert.KernelIdeal.nD) : (acc7 m hO c 83 : Cert.KernelIdeal.S256x3072.Idx → EReal)
    = rhstR (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) := by
  funext j
  obtain ⟨o, i, rfl⟩ : ∃ (o : Fin 256) (i : Fin 3072), j = ix2 o i :=
    ⟨j 0, j 1, by funext a; match a with | ⟨0, _⟩ => rfl | ⟨1, _⟩ => rfl⟩
  refine (acc7_apply m hX hO c o i 83 (by decide)).trans ?_
  refine Eq.trans ?_ (rhstR_apply _ _ _ o i).symm
  refine Eq.trans ?_ (Math.rhs_lower (X m c) (hX c) (Wt m c o) (fun j => Math.tile j < Math.tile i) i (lt_irrefl _))
  refine (Math.sum_points fun u => add7 m c (gp u) o i).trans (Finset.sum_congr rfl fun k _ => ?_)
  refine Eq.trans (b := ∑ t, if Math.colN t = Math.tile i ∧ Math.rowN t ≠ Math.colN t then
    (fun I => ∑ l, Wt m c o k (Math.cat I l) * Math.hgram (X m c) k (Math.cat I l) i) (Math.rowN t) else 0) ?_ ?_
  · refine Finset.sum_congr rfl fun t _ => ?_
    unfold add7
    rw [tt_gp _ t k rfl, kk_gp _ t k rfl]
  · refine (Math.sum_col (Math.tile i) fun I => ∑ l, Wt m c o k (Math.cat I l) * Math.hgram (X m c) k (Math.cat I l) i).trans ?_
    rw [Math.sum_cat]
    refine Finset.sum_congr rfl fun J _ => ?_
    simp only [Math.tile_cat]
    by_cases h : J < Math.tile i
    · simp [h]
    · simp [h]

/-- The kernel's run with its results. -/
theorem run_kernel (hX : ∀ c k s i, ∃ r : ℝ, X m c k s i = r) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r =>
      ∀ c : Dev Cert.KernelIdeal.nD,
        r.2.mem ((c.tc : Thread Cert.KernelIdeal.nD Cert.KernelIdeal.τ).loc Cert.KernelIdeal.main_v1_0) = G5 m (ok m) c
        ∧ r.2.mem ((c.tc : Thread Cert.KernelIdeal.nD Cert.KernelIdeal.τ).loc Cert.KernelIdeal.main_v1_1) = acc6 m (ok m) c 83
        ∧ r.2.mem ((c.tc : Thread Cert.KernelIdeal.nD Cert.KernelIdeal.τ).loc Cert.KernelIdeal.main_v1_2) = acc7 m (ok m) c 83
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)) :=
  (θ_run Cert.KernelIdeal.defs _ _).mono (fun r h c =>
      ⟨((h.1 c).1 5).trans (final5 m (ok m) c), ((h.1 c).1 6).trans (final6 m (ok m) c), ((h.1 c).1 7).trans (final7 m (ok m) c),
       ((h.1 c).1 1).trans ((Pipeline.Dat.arrAt_in (dats m (ok m) 0 c) 1 rfl _).trans (V_main_arg0 m c)),
       ((h.1 c).1 3).trans ((Pipeline.Dat.arrAt_in (dats m (ok m) 0 c) 3 rfl _).trans (V_main_arg1 m c)),
       ((h.1 c).2 Cert.KernelIdeal.main_arg2 (by decide : Cert.KernelIdeal.main_arg2 ∈ Pipeline.restRefs Cert.KernelIdeal.sig Cert.KernelIdeal.spec0)).trans (V_main_arg2 m c)⟩)
    (run_main_quiescent m ρ (ok m))

/-- For finite activations the kernel and the reference end with equal results. -/
theorem algebraic : Cert.algebraic_KernelIdeal_ReferenceIdeal_pre_x_finite (hKernelIdeal := Cert.KernelIdeal.Gen.facts)
    (hReferenceIdeal := Cert.ReferenceIdeal.Gen.facts) (hPre_x_finite := pre_facts) := by
  intro m g m' g' hpre hargs
  have hX := x_real m hpre
  refine ⟨fun c => G5 m (ok m) c, fun c => acc6 m (ok m) c 83, fun c => acc7 m (ok m) c 83, run_kernel m hX g, ?_⟩
  refine (θ_run Cert.ReferenceIdeal.defs _ _).mono (fun r h c => ?_) (run_stages m' g')
  obtain ⟨h0, h1, h2, h3⟩ := h c
  obtain ⟨e0, e1, e2⟩ := hargs c
  refine ⟨h0.trans ?_, h1.trans ?_, h2.trans ?_, h3⟩
  · refine Eq.trans ?_ (value_a m hX (ok m) c).symm
    exact congrArg (fun x => tiles (mergedR x)) e0
  · refine Eq.trans ?_ (value_p m hX (ok m) c).symm
    exact (congrArg (fun x => rhsR x _ _) e0).trans ((congrArg (fun w => rhsR _ w _) e1).trans (congrArg (fun s => rhsR _ _ s) e2))
  · refine Eq.trans ?_ (value_pt m hX (ok m) c).symm
    exact (congrArg (fun x => rhstR x _ _) e0).trans ((congrArg (fun w => rhstR _ w _) e1).trans (congrArg (fun s => rhstR _ _ s) e2))

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Kernel.Frame
public import proofs.«01_k».proof.Proof.KernelIdeal.Frame
public import proofs.«01_k».proof.Proof.Value.Main
public import Idealize.ShloMosaic.Adequacy
public import Idealize.ShloMosaic.Init

@[expose] public section

noncomputable section

namespace Cert.Proof

open Idealize.ShloMosaic Idealize.SL.Sem Cert.Kernel

/-- The reference program runs and leaves its arguments unchanged; it has no semaphore. -/
theorem frame_reference : Cert.quiescent_ReferenceIdeal := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

/-- Everything claimed. -/
theorem claim : Cert.Claim := ⟨Cert.Kernel.Gen.facts, Cert.KernelIdeal.Gen.facts, Cert.ReferenceIdeal.Gen.facts, pre_facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial, trivial, algebraic⟩

end Cert.Proof

end
